-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x32x32x32 : Shape := ⟨5, ![2, 64, 32, 32, 32]⟩
abbrev S50x128 : Shape := ⟨2, ![50, 128]⟩
abbrev S6400 : Shape := ⟨1, ![6400]⟩
abbrev S25165824 : Shape := ⟨1, ![25165824]⟩
abbrev S4096 : Shape := ⟨1, ![4096]⟩
abbrev S128 : Shape := ⟨1, ![128]⟩
abbrev S12288 : Shape := ⟨1, ![12288]⟩
abbrev S_ : Shape := ⟨0, ![]⟩
abbrev S16 : Shape := ⟨1, ![16]⟩
abbrev S2x32x32x4x3x8x128 : Shape := ⟨7, ![2, 32, 32, 4, 3, 8, 128]⟩
abbrev S2x3x128x32x32x4x8 : Shape := ⟨7, ![2, 3, 128, 32, 32, 4, 8]⟩
abbrev S2x384x32x32x32 : Shape := ⟨5, ![2, 384, 32, 32, 32]⟩

abbrev nBuf : Table → Nat
  | .hbm => 11
  | .local .scVector .vmem => 5
  | _ => 0

abbrev bufTy : (tb : Table) → Fin (nBuf tb) → BufTy
  | .hbm, ⟨0, _⟩ => ⟨S2x64x32x32x32, .f32⟩
  | .hbm, ⟨1, _⟩ => ⟨S50x128, .f32⟩
  | .hbm, ⟨2, _⟩ => ⟨S50x128, .f32⟩
  | .hbm, ⟨3, _⟩ => ⟨S50x128, .f32⟩
  | .hbm, ⟨4, _⟩ => ⟨S6400, .f32⟩
  | .hbm, ⟨5, _⟩ => ⟨S6400, .f32⟩
  | .hbm, ⟨6, _⟩ => ⟨S6400, .f32⟩
  | .hbm, ⟨7, _⟩ => ⟨S25165824, .f32⟩
  | .hbm, ⟨8, _⟩ => ⟨S2x32x32x4x3x8x128, .f32⟩
  | .hbm, ⟨9, _⟩ => ⟨S2x3x128x32x32x4x8, .f32⟩
  | .hbm, ⟨10, _⟩ => ⟨S2x384x32x32x32, .f32⟩
  | .local .scVector .vmem, ⟨0, _⟩ => ⟨S4096, .f32⟩
  | .local .scVector .vmem, ⟨1, _⟩ => ⟨S128, .f32⟩
  | .local .scVector .vmem, ⟨2, _⟩ => ⟨S4096, .f32⟩
  | .local .scVector .vmem, ⟨3, _⟩ => ⟨S12288, .f32⟩
  | .local .scVector .vmem, ⟨4, _⟩ => ⟨S12288, .f32⟩
  | _, _ => ⟨S2x64x32x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32 : BitVec 32) (c0_i32_1040 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4899 : BitVec 32 := Scalar.addi c0_i32 v1
  let c32_i32 : BitVec 32 := 32#32
  let v4900 : BitVec 32 := Scalar.muli v4899 c32_i32
  let v4901 : BitVec 32 := Scalar.addi v4900 c0_i32_1040
  let c12288_i32 : BitVec 32 := 12288#32
  let v4902 : BitVec 32 := Scalar.muli v4901 c12288_i32
  ![v4902.toNat]
@[reducible] def k0_t1_loop : Scf.Loop 32 :=
  let c1_i32_1317 : BitVec 32 := 1#32
  let c15_i32 : BitVec 32 := 15#32
  let v5707 : BitVec 32 := Scalar.addi c1_i32_1317 c15_i32
  let c1_i32_1318 : BitVec 32 := 1#32
  ⟨c1_i32_1317, v5707, c1_i32_1318⟩
def k0_off3 (k0_t1 : Fin k0_t1_loop.trips) (c0_i32_1334 : BitVec 32) : Fin 1 → Nat :=
  let c2_i32_1328 : BitVec 32 := 2#32
  let c1_i32_1317 : BitVec 32 := 1#32
  let c1_i32_1318 : BitVec 32 := 1#32
  let arg13 : BitVec 32 := Scf.iv c1_i32_1317 c1_i32_1318 k0_t1
  let v5716 : BitVec 32 := Scalar.muli c2_i32_1328 arg13
  let c128_i32_1333 : BitVec 32 := 128#32
  let v5721 : BitVec 32 := Scalar.muli v5716 c128_i32_1333
  let v5722 : BitVec 32 := Scalar.addi v5721 c0_i32_1334
  let v5723 : Index := Scalar.indexCast v5722
  ![v5723.toNat]
def k0_off4 (i : grid0.Coords) (k0_t1 : Fin k0_t1_loop.trips) (c0_i32_1599 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6529 : BitVec 32 := Scalar.addi c0_i32_1599 v1
  let c32_i32_1600 : BitVec 32 := 32#32
  let v6530 : BitVec 32 := Scalar.muli v6529 c32_i32_1600
  let c2_i32_1328 : BitVec 32 := 2#32
  let c1_i32_1317 : BitVec 32 := 1#32
  let c1_i32_1318 : BitVec 32 := 1#32
  let arg13 : BitVec 32 := Scf.iv c1_i32_1317 c1_i32_1318 k0_t1
  let v5716 : BitVec 32 := Scalar.muli c2_i32_1328 arg13
  let v6531 : BitVec 32 := Scalar.addi v6530 v5716
  let c12288_i32_1601 : BitVec 32 := 12288#32
  let v6532 : BitVec 32 := Scalar.muli v6531 c12288_i32_1601
  ![v6532.toNat]
def k0_off5 (k0_t1 : Fin k0_t1_loop.trips) (c0_i32_1611 : BitVec 32) : Fin 1 → Nat :=
  let c2_i32_1328 : BitVec 32 := 2#32
  let c1_i32_1317 : BitVec 32 := 1#32
  let c1_i32_1318 : BitVec 32 := 1#32
  let arg13 : BitVec 32 := Scf.iv c1_i32_1317 c1_i32_1318 k0_t1
  let v5716 : BitVec 32 := Scalar.muli c2_i32_1328 arg13
  let c1_i32_1609 : BitVec 32 := 1#32
  let v6545 : BitVec 32 := Scalar.addi v5716 c1_i32_1609
  let c128_i32_1610 : BitVec 32 := 128#32
  let v6546 : BitVec 32 := Scalar.muli v6545 c128_i32_1610
  let v6547 : BitVec 32 := Scalar.addi v6546 c0_i32_1611
  let v6548 : Index := Scalar.indexCast v6547
  ![v6548.toNat]
def k0_off6 (i : grid0.Coords) (k0_t1 : Fin k0_t1_loop.trips) (c0_i32_1883 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7355 : BitVec 32 := Scalar.addi c0_i32_1883 v1
  let c32_i32_1884 : BitVec 32 := 32#32
  let v7356 : BitVec 32 := Scalar.muli v7355 c32_i32_1884
  let c2_i32_1328 : BitVec 32 := 2#32
  let c1_i32_1317 : BitVec 32 := 1#32
  let c1_i32_1318 : BitVec 32 := 1#32
  let arg13 : BitVec 32 := Scf.iv c1_i32_1317 c1_i32_1318 k0_t1
  let v5716 : BitVec 32 := Scalar.muli c2_i32_1328 arg13
  let c1_i32_1882 : BitVec 32 := 1#32
  let v7354 : BitVec 32 := Scalar.addi v5716 c1_i32_1882
  let v7357 : BitVec 32 := Scalar.addi v7356 v7354
  let c12288_i32_1885 : BitVec 32 := 12288#32
  let v7358 : BitVec 32 := Scalar.muli v7357 c12288_i32_1885
  ![v7358.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x64x32x32x32 : Shape := ⟨5, ![2, 64, 32, 32, 32]⟩
abbrev S50x128 : Shape := ⟨2, ![50, 128]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x128 : Shape := ⟨2, ![32, 128]⟩
abbrev S1x32x1x128 : Shape := ⟨4, ![1, 32, 1, 128]⟩
abbrev S1x1x1x32x1x1x1x128 : Shape := ⟨8, ![1, 1, 1, 32, 1, 1, 1, 128]⟩
abbrev S32x1x1x32x32x1x1x128 : Shape := ⟨8, ![32, 1, 1, 32, 32, 1, 1, 128]⟩
abbrev S32x32x32x128 : Shape := ⟨4, ![32, 32, 32, 128]⟩
abbrev S32x1x1x128 : Shape := ⟨4, ![32, 1, 1, 128]⟩
abbrev S1x32x1x1x1x1x1x128 : Shape := ⟨8, ![1, 32, 1, 1, 1, 1, 1, 128]⟩
abbrev S1x32x32x1x32x1x1x128 : Shape := ⟨8, ![1, 32, 32, 1, 32, 1, 1, 128]⟩
abbrev S1x1x32x128 : Shape := ⟨4, ![1, 1, 32, 128]⟩
abbrev S1x1x1x1x1x32x1x128 : Shape := ⟨8, ![1, 1, 1, 1, 1, 32, 1, 128]⟩
abbrev S32x1x32x1x1x32x1x128 : Shape := ⟨8, ![32, 1, 32, 1, 1, 32, 1, 128]⟩
abbrev S32x32x32x384 : Shape := ⟨4, ![32, 32, 32, 384]⟩
abbrev S384x32x32x32 : Shape := ⟨4, ![384, 32, 32, 32]⟩
abbrev S1x384x32x32x32 : Shape := ⟨5, ![1, 384, 32, 32, 32]⟩
abbrev S1x1x1x384x1x32x1x32x1x32 : Shape := ⟨10, ![1, 1, 1, 384, 1, 32, 1, 32, 1, 32]⟩
abbrev S2x1x1x384x1x32x1x32x1x32 : Shape := ⟨10, ![2, 1, 1, 384, 1, 32, 1, 32, 1, 32]⟩
abbrev S2x384x32x32x32 : Shape := ⟨5, ![2, 384, 32, 32, 32]⟩

abbrev nBuf : Space → Nat
  | .hbm => 94
  | .vmem => 0
  | .smem => 0
  | _ => 0

abbrev bufTy : (tb : Table) → Fin (tcTables nBuf tb) → BufTy
  | .hbm, ⟨0, _⟩ => ⟨S2x64x32x32x32, .f32⟩
  | .hbm, ⟨1, _⟩ => ⟨S50x128, .f32⟩
  | .hbm, ⟨2, _⟩ => ⟨S50x128, .f32⟩
  | .hbm, ⟨3, _⟩ => ⟨S50x128, .f32⟩
  | .hbm, ⟨4, _⟩ => ⟨S32, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S1, .i32⟩
  | .hbm, ⟨16, _⟩ => ⟨S_, .i32⟩
  | .hbm, ⟨17, _⟩ => ⟨S32x1, .i32⟩
  | .hbm, ⟨18, _⟩ => ⟨S32x1, .i1⟩
  | .hbm, ⟨19, _⟩ => ⟨S1x1, .i32⟩
  | .hbm, ⟨20, _⟩ => ⟨S32x1, .i32⟩
  | .hbm, ⟨21, _⟩ => ⟨S32x1, .i1⟩
  | .hbm, ⟨22, _⟩ => ⟨S32x1, .i1⟩
  | .hbm, ⟨23, _⟩ => ⟨S_, .i1⟩
  | .hbm, ⟨24, _⟩ => ⟨S32, .i1⟩
  | .hbm, ⟨25, _⟩ => ⟨S32x128, .f32⟩
  | .hbm, ⟨26, _⟩ => ⟨S32x128, .i1⟩
  | .hbm, ⟨27, _⟩ => ⟨S_, .f32⟩
  | .hbm, ⟨28, _⟩ => ⟨S32x128, .f32⟩
  | .hbm, ⟨29, _⟩ => ⟨S32x128, .f32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S1, .i32⟩
  | .hbm, ⟨39, _⟩ => ⟨S_, .i32⟩
  | .hbm, ⟨40, _⟩ => ⟨S32x1, .i32⟩
  | .hbm, ⟨41, _⟩ => ⟨S32x1, .i1⟩
  | .hbm, ⟨42, _⟩ => ⟨S1x1, .i32⟩
  | .hbm, ⟨43, _⟩ => ⟨S32x1, .i32⟩
  | .hbm, ⟨44, _⟩ => ⟨S32x1, .i1⟩
  | .hbm, ⟨45, _⟩ => ⟨S32x1, .i1⟩
  | .hbm, ⟨46, _⟩ => ⟨S_, .i1⟩
  | .hbm, ⟨47, _⟩ => ⟨S32, .i1⟩
  | .hbm, ⟨48, _⟩ => ⟨S32x128, .f32⟩
  | .hbm, ⟨49, _⟩ => ⟨S32x128, .i1⟩
  | .hbm, ⟨50, _⟩ => ⟨S_, .f32⟩
  | .hbm, ⟨51, _⟩ => ⟨S32x128, .f32⟩
  | .hbm, ⟨52, _⟩ => ⟨S32x128, .f32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S32x1, .i32⟩
  | .hbm, ⟨61, _⟩ => ⟨S1, .i32⟩
  | .hbm, ⟨62, _⟩ => ⟨S_, .i32⟩
  | .hbm, ⟨63, _⟩ => ⟨S32x1, .i32⟩
  | .hbm, ⟨64, _⟩ => ⟨S32x1, .i1⟩
  | .hbm, ⟨65, _⟩ => ⟨S1x1, .i32⟩
  | .hbm, ⟨66, _⟩ => ⟨S32x1, .i32⟩
  | .hbm, ⟨67, _⟩ => ⟨S32x1, .i1⟩
  | .hbm, ⟨68, _⟩ => ⟨S32x1, .i1⟩
  | .hbm, ⟨69, _⟩ => ⟨S_, .i1⟩
  | .hbm, ⟨70, _⟩ => ⟨S32, .i1⟩
  | .hbm, ⟨71, _⟩ => ⟨S32x128, .f32⟩
  | .hbm, ⟨72, _⟩ => ⟨S32x128, .i1⟩
  | .hbm, ⟨73, _⟩ => ⟨S_, .f32⟩
  | .hbm, ⟨74, _⟩ => ⟨S32x128, .f32⟩
  | .hbm, ⟨75, _⟩ => ⟨S32x128, .f32⟩
  | .hbm, ⟨76, _⟩ => ⟨S1x32x1x128, .f32⟩
  | .hbm, ⟨77, _⟩ => ⟨S1x1x1x32x1x1x1x128, .f32⟩
  | .hbm, ⟨78, _⟩ => ⟨S32x1x1x32x32x1x1x128, .f32⟩
  | .hbm, ⟨79, _⟩ => ⟨S32x32x32x128, .f32⟩
  | .hbm, ⟨80, _⟩ => ⟨S32x1x1x128, .f32⟩
  | .hbm, ⟨81, _⟩ => ⟨S1x32x1x1x1x1x1x128, .f32⟩
  | .hbm, ⟨82, _⟩ => ⟨S1x32x32x1x32x1x1x128, .f32⟩
  | .hbm, ⟨83, _⟩ => ⟨S32x32x32x128, .f32⟩
  | .hbm, ⟨84, _⟩ => ⟨S1x1x32x128, .f32⟩
  | .hbm, ⟨85, _⟩ => ⟨S1x1x1x1x1x32x1x128, .f32⟩
  | .hbm, ⟨86, _⟩ => ⟨S32x1x32x1x1x32x1x128, .f32⟩
  | .hbm, ⟨87, _⟩ => ⟨S32x32x32x128, .f32⟩
  | .hbm, ⟨88, _⟩ => ⟨S32x32x32x384, .f32⟩
  | .hbm, ⟨89, _⟩ => ⟨S384x32x32x32, .f32⟩
  | .hbm, ⟨90, _⟩ => ⟨S1x384x32x32x32, .f32⟩
  | .hbm, ⟨91, _⟩ => ⟨S1x1x1x384x1x32x1x32x1x32, .f32⟩
  | .hbm, ⟨92, _⟩ => ⟨S2x1x1x384x1x32x1x32x1x32, .f32⟩
  | .hbm, ⟨93, _⟩ => ⟨S2x384x32x32x32, .f32⟩
  | _, _ => ⟨S2x64x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v4 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩

abbrev nD : Nat := 1
abbrev τ : Topo := Topo.v7x

variable {F : FTy → Type} [FloatOps F]
-- ==== Proof.Setup.lean ====
/-
  What every module of this proof shares: the kernel as the launch theorem sees it, the resources of its threads, the
  names of the kernel's buffers as its body is given them, and the contents of tables as functions of a natural number.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal

@[expose] public section

noncomputable section

namespace Cert.Proof.Embed

open Cert.KernelIdeal Cert.KernelIdeal.Gen
open Idealize.ShloMosaic
open Idealize.ShloMosaic.SparseCore (S V T)
open Idealize.ShloMosaic.SparseCore.Cfg (HIx)
open Idealize.SL Idealize.SL.RA Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The resources: the rounds of the handshakes, the counters of the transfers. -/
abbrev UH : Type := URounds (GSem nD τ sig) ℕ
abbrev UU : Type := UH × Counters

/-- The machine's resource algebra at this kernel. -/
abbrev MM (F : FTy → Type) : Type _ := MT nD τ sig (HIx 1) (Elt F) ℕ UU ℕ

abbrev EH : Emb UH (MT nD τ sig (HIx 1) (Elt F) ℕ UU ℕ) := embL
/-- The counters' place in it. -/
abbrev EC : UEmb Counters (MM F) := countersEmb

/-! ## The tile and its buffers -/

abbrev cV (L : grid0.Coords) : Fin τ.nSC := (L 0).castLE hcore0
abbrev jV (L : grid0.Coords) : Fin τ.nSub := (L 1).castLE hsub0
/-- The vector subcore that the coordinates `L` name, on device `d`. -/
abbrev thr (d : Dev nD) (L : grid0.Coords) : Thread nD τ := V d (cV L) (jV L)

abbrev colH : Memref sig .scVector .hbm S6400 .f32 := Memref.whole main_v0_scv
abbrev rowH : Memref sig .scVector .hbm S6400 .f32 := Memref.whole main_v1_scv
abbrev depH : Memref sig .scVector .hbm S6400 .f32 := Memref.whole main_v2_scv
abbrev outH : Memref sig .scVector .hbm S25165824 .f32 := Memref.whole main_v3_scv
abbrev colM : Memref sig .scVector .vmem S4096 .f32 := Memref.whole cc0_scratch0
abbrev rowM : Memref sig .scVector .vmem S128 .f32 := Memref.whole cc0_scratch1
abbrev depM : Memref sig .scVector .vmem S4096 .f32 := Memref.whole cc0_scratch2
abbrev slabA : Memref sig .scVector .vmem S12288 .f32 := Memref.whole cc0_scratch3
abbrev slabB : Memref sig .scVector .vmem S12288 .f32 := Memref.whole cc0_scratch4

/-! ## Tables -/

/-- A table read by number, as the contents of an array of one axis. -/
abbrev flat (N : ℕ) (t : ℕ → F .f32) : (⟨1, ![N]⟩ : Shape).Idx → F .f32 := fun x => t (x 0).val
/-- Sixteen entries of a table from number `c` on, as a register holds them. -/
def lane (t : ℕ → F .f32) (c : ℕ) : S16.Idx → F .f32 := fun x => t (c + (x 0).val)

end Cert.Proof.Embed

end
-- ==== Proof.Slab.lean ====
/-
  What one slab is to hold, and how far it has come.

  A slab is twelve blocks of 1024 numbers: for each of four depth blocks one block of the column table, one of the row
  table, one of the depth table, each block eight rows of 128. The row and depth blocks are laid down once, sixteen
  numbers at a time, a row piece and the depth piece below it in turn; the column blocks are laid down anew for every
  width `w`. `State` counts the stores so far, and `Holds` says what is then known of the contents.
-/
module

public import proofs.«01_k».proof.Proof.Setup

@[expose] public section

noncomputable section

namespace Cert.Proof.Embed

open Cert.KernelIdeal
open Idealize.ShloMosaic

variable {α : Type}

/-- What the slab of width `w` is to hold at place `n`: from the column, the tile's row and the depth table. -/
def target (col row dep : ℕ → α) (w n : ℕ) : α :=
  if n / 1024 % 3 = 0 then col (w * 128 + n % 128)
  else if n / 1024 % 3 = 1 then row (n % 128)
  else dep (n / 3072 * 1024 + n % 1024)

/-- The place of `n`'s store among the stores of the row and depth blocks. -/
def fillNo (n : ℕ) : ℕ := n / 3072 * 128 + n % 1024 / 16 * 2 + (n / 1024 % 3 - 1)

/-- The place of `n`'s store among the stores of the column blocks. -/
def patchNo (n : ℕ) : ℕ := n / 3072 * 64 + n % 1024 / 16

/-- How far a slab has come. -/
inductive State where
  /-- It is not the tile's to use: copies out of it are under way. -/
  | away
  /-- So many stores of the row and depth blocks are done. -/
  | fill (c : ℕ)
  /-- The row and depth blocks are done, and so many stores of the column blocks of width `w`. -/
  | patch (w c : ℕ)

/-- What is known of the contents of a slab that has come so far. -/
def Holds (col row dep : ℕ → α) : State → (S12288.Idx → α) → Prop
  | .away, _ => True
  | .fill c, f => ∀ x : S12288.Idx, (x 0).val / 1024 % 3 ≠ 0 → fillNo (x 0).val < c → f x = target col row dep 0 (x 0).val
  | .patch w c, f => ∀ x : S12288.Idx, ((x 0).val / 1024 % 3 ≠ 0 ∨ patchNo (x 0).val < c) →
      f x = target col row dep w (x 0).val

variable {col row dep : ℕ → α}

theorem target_of_ne {w w' n : ℕ} (h : n / 1024 % 3 ≠ 0) : target col row dep w n = target col row dep w' n := by
  unfold target
  rw [if_neg h, if_neg h]

/-- All 512 stores of the row and depth blocks make them complete. -/
theorem holds_patch_of_fill {f : S12288.Idx → α} (w : ℕ) (h : Holds col row dep (.fill 512) f) :
    Holds col row dep (.patch w 0) f := by
  intro x hx
  have hlt : (x 0).val < 12288 := (x 0).isLt
  have hne : (x 0).val / 1024 % 3 ≠ 0 := hx.resolve_right (Nat.not_lt_zero _)
  rw [h x hne (by unfold fillNo; omega)]
  exact target_of_ne hne

/-- All 256 stores of the column blocks make the slab complete. -/
theorem holds_all {f : S12288.Idx → α} {w : ℕ} (h : Holds col row dep (.patch w 256) f) :
    f = fun x => target col row dep w (x 0).val := by
  funext x
  have hlt : (x 0).val < 12288 := (x 0).isLt
  exact h x (.inr (by unfold patchNo; omega))

/-- The slab complete for one width has its row and depth blocks complete for any other. -/
theorem holds_patch_of_all (w w' : ℕ) :
    Holds col row dep (.patch w' 0) fun x : S12288.Idx => target col row dep w (x 0).val := by
  intro x hx
  exact target_of_ne (hx.resolve_right (Nat.not_lt_zero _))

/-- What a store of sixteen numbers `v` at `o` does to the contents: they are `v` there and as before elsewhere. -/
def Stored (o : ℕ) (v : ℕ → α) (f g : S12288.Idx → α) : Prop :=
  ∀ x : S12288.Idx, g x = if o ≤ (x 0).val ∧ (x 0).val < o + 16 then v ((x 0).val - o) else f x

variable {f g : S12288.Idx → α} {o c : ℕ}

/-- The next store of a row block. -/
theorem holds_row (h : Holds col row dep (.fill c) f) (ho : o % 16 = 0) (hk : o / 1024 % 3 = 1) (hc : fillNo o = c)
    (hs : Stored o (fun j => row (o % 128 + j)) f g) : Holds col row dep (.fill (fillNo o + 1)) g := by
  intro x hx hn
  have hlt : (x 0).val < 12288 := (x 0).isLt
  rw [hs x]
  split
  · have : (x 0).val / 1024 % 3 = 1 := by omega
    unfold target
    rw [if_neg (by omega), if_pos this]
    exact congrArg row (by omega)
  · refine h x hx ?_
    unfold fillNo at *; omega

/-- The next store of a depth block. -/
theorem holds_dep (h : Holds col row dep (.fill c) f) (ho : o % 16 = 0) (hk : o / 1024 % 3 = 2) (hc : fillNo o = c)
    (hs : Stored o (fun j => dep (o / 3072 * 1024 + o % 1024 + j)) f g) : Holds col row dep (.fill (fillNo o + 1)) g := by
  intro x hx hn
  have hlt : (x 0).val < 12288 := (x 0).isLt
  rw [hs x]
  split
  · have : (x 0).val / 1024 % 3 = 2 := by omega
    unfold target
    rw [if_neg (by omega), if_neg (by omega)]
    exact congrArg dep (by omega)
  · refine h x hx ?_
    unfold fillNo at *; omega

/-- The next store of a column block. -/
theorem holds_col {w : ℕ} (h : Holds col row dep (.patch w c) f) (ho : o % 16 = 0) (hk : o / 1024 % 3 = 0)
    (hc : patchNo o = c) (hs : Stored o (fun j => col (w * 128 + o % 128 + j)) f g) :
    Holds col row dep (.patch w (patchNo o + 1)) g := by
  intro x hx
  have hlt : (x 0).val < 12288 := (x 0).isLt
  rw [hs x]
  split
  · have : (x 0).val / 1024 % 3 = 0 := by omega
    unfold target
    rw [if_pos this]
    exact congrArg col (by omega)
  · refine h x ?_
    rcases hx with hx | hx
    · exact .inl hx
    · by_cases h0 : (x 0).val / 1024 % 3 = 0
      · refine .inr ?_
        unfold patchNo at *; omega
      · exact .inl h0

end Cert.Proof.Embed

end
-- ==== Proof.Step.lean ====
/-
  One operation of the kernel's body at a time: the loads and stores of a tile's own memory.

  `Seg` says that the tile, holding its three tables, its two slabs as far as they have come and whatever else, runs a
  program to a given end. A rule says what the program after one operation has to do for the program before it.
-/
module

public import proofs.«01_k».proof.Proof.Slab
public import Idealize.ShloMosaic.Lib.Pipeline.Value

@[expose] public section

noncomputable section

namespace Cert.Proof.Embed

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- What stays the same while a tile works: the tile, its three tables, and what its program is to end with. -/
structure Env (F : FTy → Type) where
  d : Dev nD
  L : grid0.Coords
  col : ℕ → F .f32
  row : ℕ → F .f32
  dep : ℕ → F .f32
  Q : sProp (MM F)

variable (e : Env F)

/-- The programs of the tile. -/
abbrev TileProg : Type _ := Prog (TpuEff nD τ sig (Elt F) Λ₀ (.scVector (cV e.L) (jV e.L))) PUnit

/-- The tile's three tables. -/
def tables : sProp (MM F) :=
  iprop((colM.view.loc (thr e.d e.L) ↦{fullShare} flat 4096 e.col) ∗ (rowM.view.loc (thr e.d e.L) ↦{fullShare} flat 128 e.row)
    ∗ (depM.view.loc (thr e.d e.L) ↦{fullShare} flat 4096 e.dep))

/-- One of the two slabs at contents `f`. -/
def slabPts : Bool → (S12288.Idx → F .f32) → sProp (MM F)
  | false, f => slabA.view.loc (thr e.d e.L) ↦{fullShare} f
  | true, f => slabB.view.loc (thr e.d e.L) ↦{fullShare} f

/-- A slab that has come so far; nothing while it is away. -/
def slabRes (b : Bool) : State → sProp (MM F)
  | .away => iprop(emp)
  | s => iprop(∃ f, ⌜Holds e.col e.row e.dep s f⌝ ∗ slabPts e b f)

/-- With the tables, the slabs come so far and `R`, the tile runs `p` to the end `e.Q`. -/
def Seg (R : sProp (MM F)) (s₀ s₁ : State) (p : TileProg e) : Prop :=
  iprop(tables e ∗ slabRes e false s₀ ∗ slabRes e true s₁ ∗ R)
    ⊢ wp frame (wpE (defs₀ (F := F)) 𝒱₀ (thr e.d e.L) none) Set.univ p fun _ => e.Q

variable {e} {R : sProp (MM F)} {s₀ s₁ : State}

/-! ## The tables and a load -/

omit [FloatOps F] in
theorem read_col {off : Fin 1 → ℕ} {c : ℕ} (hoff : off = ![c]) (inb : ∀ a, off a + S16.size a ≤ S4096.size a) (t : ℕ → F .f32) :
    colM.view.readAt (Elt F) (Rect.unit (s := S4096) off S16.size inb).toLoadRect (flat 4096 t) = lane t c := by
  subst hoff
  funext x
  simp [View.readAt_apply, lane, flat]

omit [FloatOps F] in
theorem read_row {c : ℕ} (inb : ∀ a, (![c] : Fin 1 → ℕ) a + S16.size a ≤ S128.size a) (t : ℕ → F .f32) :
    rowM.view.readAt (Elt F) (Rect.unit (s := S128) ![c] S16.size inb).toLoadRect (flat 128 t) = lane t c := by
  funext x
  simp [View.readAt_apply, lane, flat]

omit [FloatOps F] in
theorem read_dep {c : ℕ} (inb : ∀ a, (![c] : Fin 1 → ℕ) a + S16.size a ≤ S4096.size a) (t : ℕ → F .f32) :
    depM.view.readAt (Elt F) (Rect.unit (s := S4096) ![c] S16.size inb).toLoadRect (flat 4096 t) = lane t c := by
  funext x
  simp [View.readAt_apply, lane, flat]

/-- Sixteen numbers of the column table. -/
theorem Seg.load_col {off : Fin 1 → ℕ} (c : ℕ) {inb : ∀ a, off a + S16.size a ≤ S4096.size a}
    {hl : colM.view.LoadsAt (Rect.unit (s := S4096) off S16.size inb).toLoadRect} {k : (S16.Idx → F .f32) → TileProg e}
    (hoff : off = ![c]) (h : Seg e R s₀ s₁ (k (lane e.col c))) :
    Seg e R s₀ s₁ (Prog.lift (.load colM (Rect.unit (s := S4096) off S16.size inb).toLoadRect hl) >>= k) := by
  rw [Prog.bind_lift]
  unfold Seg tables at *
  iintro ⟨⟨Hc, Hr, Hd⟩, H⟩
  iapply (wp_load 𝒱₀ (thr e.d e.L) none Set.univ (Finset.subset_univ _)) $$ Hc
  iintro Hc
  rw [read_col hoff]
  iapply h
  isplitl [Hc Hr Hd]
  · isplitl [Hc]; · iexact Hc
    isplitl [Hr]; · iexact Hr
    iexact Hd
  iexact H

/-- The same where the place is a plain number. -/
theorem Seg.load_col_at {c : ℕ} {inb : ∀ a, (![c] : Fin 1 → ℕ) a + S16.size a ≤ S4096.size a}
    {hl : colM.view.LoadsAt (Rect.unit (s := S4096) ![c] S16.size inb).toLoadRect} {k : (S16.Idx → F .f32) → TileProg e}
    (h : Seg e R s₀ s₁ (k (lane e.col c))) :
    Seg e R s₀ s₁ (Prog.lift (.load colM (Rect.unit (s := S4096) ![c] S16.size inb).toLoadRect hl) >>= k) :=
  Seg.load_col c rfl h

/-- Sixteen numbers of the tile's row. -/
theorem Seg.load_row {c : ℕ} {inb : ∀ a, (![c] : Fin 1 → ℕ) a + S16.size a ≤ S128.size a}
    {hl : rowM.view.LoadsAt (Rect.unit (s := S128) ![c] S16.size inb).toLoadRect} {k : (S16.Idx → F .f32) → TileProg e}
    (h : Seg e R s₀ s₁ (k (lane e.row c))) :
    Seg e R s₀ s₁ (Prog.lift (.load rowM (Rect.unit (s := S128) ![c] S16.size inb).toLoadRect hl) >>= k) := by
  rw [Prog.bind_lift]
  unfold Seg tables at *
  iintro ⟨⟨Hc, Hr, Hd⟩, H⟩
  iapply (wp_load 𝒱₀ (thr e.d e.L) none Set.univ (Finset.subset_univ _)) $$ Hr
  iintro Hr
  rw [read_row]
  iapply h
  isplitl [Hc Hr Hd]
  · isplitl [Hc]; · iexact Hc
    isplitl [Hr]; · iexact Hr
    iexact Hd
  iexact H

/-- Sixteen numbers of the depth table. -/
theorem Seg.load_dep {c : ℕ} {inb : ∀ a, (![c] : Fin 1 → ℕ) a + S16.size a ≤ S4096.size a}
    {hl : depM.view.LoadsAt (Rect.unit (s := S4096) ![c] S16.size inb).toLoadRect} {k : (S16.Idx → F .f32) → TileProg e}
    (h : Seg e R s₀ s₁ (k (lane e.dep c))) :
    Seg e R s₀ s₁ (Prog.lift (.load depM (Rect.unit (s := S4096) ![c] S16.size inb).toLoadRect hl) >>= k) := by
  rw [Prog.bind_lift]
  unfold Seg tables at *
  iintro ⟨⟨Hc, Hr, Hd⟩, H⟩
  iapply (wp_load 𝒱₀ (thr e.d e.L) none Set.univ (Finset.subset_univ _)) $$ Hd
  iintro Hd
  rw [read_dep]
  iapply h
  isplitl [Hc Hr Hd]
  · isplitl [Hc]; · iexact Hc
    isplitl [Hr]; · iexact Hr
    iexact Hd
  iexact H

/-! ## A slab, a load and a store -/

omit [FloatOps F] in
theorem stored_slabA {o c : ℕ} (inb : ∀ a, (![o] : Fin 1 → ℕ) a + S16.size a ≤ S12288.size a) (t : ℕ → F .f32)
    (f : S12288.Idx → F .f32) :
    Stored o (fun j => t (c + j)) f
      ((slabA.access (Rect.unit (s := S12288) ![o] S16.size inb)).write (Elt F) f (lane t c) Finset.univ) := by
  intro x
  by_cases h : o ≤ (x 0).val ∧ (x 0).val < o + 16
  · rw [if_pos h]
    have hx : x = (slabA.access (Rect.unit (s := S12288) ![o] S16.size inb)).emb (fun
        | 0 => ⟨(x 0).val - o, show (x 0).val - o < 16 by omega⟩) := by
      funext a
      apply Fin.ext
      match a with
      | 0 => show (x 0).val = o + 1 * ((x 0).val - o); omega
    conv_lhs => rw [hx]
    rw [View.write_emb_of_mem _ _ (Finset.mem_univ _)]
    rfl
  · rw [if_neg h]
    refine View.write_of_not_mem _ _ _ fun hm => h ?_
    obtain ⟨y, -, hy⟩ := Finset.mem_map.mp hm
    have hv : (x 0).val = o + 1 * (y 0).val := by rw [← hy]; rfl
    have hy' : (y 0).val < 16 := (y 0).isLt
    omega

omit [FloatOps F] in
theorem stored_slabB {o c : ℕ} (inb : ∀ a, (![o] : Fin 1 → ℕ) a + S16.size a ≤ S12288.size a) (t : ℕ → F .f32)
    (f : S12288.Idx → F .f32) :
    Stored o (fun j => t (c + j)) f
      ((slabB.access (Rect.unit (s := S12288) ![o] S16.size inb)).write (Elt F) f (lane t c) Finset.univ) :=
  stored_slabA inb t f

/-- A state in which the tile has the slab. -/
def State.here : State → Prop
  | .away => False
  | _ => True

omit [FloatOps F] in
theorem slabRes_here {s : State} (hs : s.here) (b : Bool) :
    slabRes e b s = iprop(∃ f, ⌜Holds e.col e.row e.dep s f⌝ ∗ slabPts e b f) := by
  cases s with
  | away => exact hs.elim
  | fill c => rfl
  | patch w c => rfl

/-- A load off a slab, about which nothing is said. -/
theorem Seg.dead_slabA {o : ℕ} {inb : ∀ a, (![o] : Fin 1 → ℕ) a + S16.size a ≤ S12288.size a}
    {hl : slabA.view.LoadsAt (Rect.unit (s := S12288) ![o] S16.size inb).toLoadRect} {k : (S16.Idx → F .f32) → TileProg e}
    (hs : s₀.here) (h : ∀ v, Seg e R s₀ s₁ (k v)) :
    Seg e R s₀ s₁ (Prog.lift (.load slabA (Rect.unit (s := S12288) ![o] S16.size inb).toLoadRect hl) >>= k) := by
  rw [Prog.bind_lift]
  unfold Seg at *
  rw [slabRes_here hs] at *
  simp only [slabPts] at *
  iintro ⟨Ht, ⟨%f, %hf, Hs⟩, H⟩
  iapply (wp_load (m := slabA) (f := f) 𝒱₀ (thr e.d e.L) none Set.univ (Finset.subset_univ _)) $$ Hs
  iintro Hs
  iapply h _
  isplitl [Ht]; · iexact Ht
  isplitl [Hs]
  · iexists f
    isplitr; · ipureintro; exact hf
    iexact Hs
  iexact H

/-- A load off a slab, about which nothing is said. -/
theorem Seg.dead_slabB {o : ℕ} {inb : ∀ a, (![o] : Fin 1 → ℕ) a + S16.size a ≤ S12288.size a}
    {hl : slabB.view.LoadsAt (Rect.unit (s := S12288) ![o] S16.size inb).toLoadRect} {k : (S16.Idx → F .f32) → TileProg e}
    (hs : s₁.here) (h : ∀ v, Seg e R s₀ s₁ (k v)) :
    Seg e R s₀ s₁ (Prog.lift (.load slabB (Rect.unit (s := S12288) ![o] S16.size inb).toLoadRect hl) >>= k) := by
  rw [Prog.bind_lift]
  unfold Seg at *
  rw [slabRes_here hs] at *
  simp only [slabPts] at *
  iintro ⟨Ht, Ha, ⟨%f, %hf, Hs⟩, H⟩
  iapply (wp_load (m := slabB) (f := f) 𝒱₀ (thr e.d e.L) none Set.univ (Finset.subset_univ _)) $$ Hs
  iintro Hs
  iapply h _
  isplitl [Ht]; · iexact Ht
  isplitl [Ha]; · iexact Ha
  isplitl [Hs]
  · iexists f
    isplitr; · ipureintro; exact hf
    iexact Hs
  iexact H

/-- A store of sixteen numbers of a table, twice through a cast that changes nothing. -/
theorem Seg.store_slabA {s : State} {o c : ℕ} {t : ℕ → F .f32} {inb : ∀ a, (![o] : Fin 1 → ℕ) a + S16.size a ≤ S12288.size a}
    {h₁ h₂ : S16.ShapeCasts S16} {hx hm} {k : PUnit → TileProg e} (hs : s₀.here) (hs' : s.here)
    (hstep : ∀ f g, Stored o (fun j => t (c + j)) f g → Holds e.col e.row e.dep s₀ f → Holds e.col e.row e.dep s g)
    (h : Seg e R s s₁ (k ⟨⟩)) :
    Seg e R s₀ s₁ (Prog.lift (.store slabA (Rect.unit (s := S12288) ![o] S16.size inb)
      (shapeCast S16 (shapeCast S16 (lane t c) h₁) h₂) Finset.univ hx hm) >>= k) := by
  rw [Prog.bind_lift]
  unfold Seg at *
  rw [slabRes_here hs] at *
  rw [slabRes_here hs'] at *
  rw [shapeCast_self, shapeCast_self]
  simp only [slabPts] at *
  iintro ⟨Ht, ⟨%f, %hf, Hs⟩, H⟩
  iapply (wp_store (m := slabA) (r := Rect.unit (s := S12288) ![o] S16.size inb) (f := f) 𝒱₀ (thr e.d e.L) none Set.univ (Finset.subset_univ _)) $$ Hs
  iintro Hs
  iapply h
  isplitl [Ht]; · iexact Ht
  isplitl [Hs]
  · iexists _
    isplitr; · ipureintro; exact hstep _ _ (stored_slabA inb t f) hf
    iexact Hs
  iexact H

/-- The same into the other slab. -/
theorem Seg.store_slabB {s : State} {o c : ℕ} {t : ℕ → F .f32} {inb : ∀ a, (![o] : Fin 1 → ℕ) a + S16.size a ≤ S12288.size a}
    {h₁ h₂ : S16.ShapeCasts S16} {hx hm} {k : PUnit → TileProg e} (hs : s₁.here) (hs' : s.here)
    (hstep : ∀ f g, Stored o (fun j => t (c + j)) f g → Holds e.col e.row e.dep s₁ f → Holds e.col e.row e.dep s g)
    (h : Seg e R s₀ s (k ⟨⟩)) :
    Seg e R s₀ s₁ (Prog.lift (.store slabB (Rect.unit (s := S12288) ![o] S16.size inb)
      (shapeCast S16 (shapeCast S16 (lane t c) h₁) h₂) Finset.univ hx hm) >>= k) := by
  rw [Prog.bind_lift]
  unfold Seg at *
  rw [slabRes_here hs] at *
  rw [slabRes_here hs'] at *
  rw [shapeCast_self, shapeCast_self]
  simp only [slabPts] at *
  iintro ⟨Ht, Ha, ⟨%f, %hf, Hs⟩, H⟩
  iapply (wp_store (m := slabB) (r := Rect.unit (s := S12288) ![o] S16.size inb) (f := f) 𝒱₀ (thr e.d e.L) none Set.univ (Finset.subset_univ _)) $$ Hs
  iintro Hs
  iapply h
  isplitl [Ht]; · iexact Ht
  isplitl [Ha]; · iexact Ha
  isplitl [Hs]
  · iexists _
    isplitr; · ipureintro; exact hstep _ _ (stored_slabB inb t f) hf
    iexact Hs
  iexact H

/-- The next store of a row block. -/
theorem Seg.row_slabA {o c n : ℕ} {inb : ∀ a, (![o] : Fin 1 → ℕ) a + S16.size a ≤ S12288.size a}
    {h₁ h₂ : S16.ShapeCasts S16} {hx hm} {k : PUnit → TileProg e} (hc : c = o % 128) (ho : o % 16 = 0)
    (hk : o / 1024 % 3 = 1) (hn : fillNo o = n) (h : Seg e R (.fill (fillNo o + 1)) s₁ (k ⟨⟩)) :
    Seg e R (.fill n) s₁ (Prog.lift (.store slabA (Rect.unit (s := S12288) ![o] S16.size inb)
      (shapeCast S16 (shapeCast S16 (lane e.row c) h₁) h₂) Finset.univ hx hm) >>= k) :=
  Seg.store_slabA (s₀ := (.fill n)) (s := (.fill (fillNo o + 1))) trivial trivial (fun _ _ hs hf => holds_row hf ho hk hn (hc ▸ hs)) h

/-- The next store of a row block. -/
theorem Seg.row_slabB {o c n : ℕ} {inb : ∀ a, (![o] : Fin 1 → ℕ) a + S16.size a ≤ S12288.size a}
    {h₁ h₂ : S16.ShapeCasts S16} {hx hm} {k : PUnit → TileProg e} (hc : c = o % 128) (ho : o % 16 = 0)
    (hk : o / 1024 % 3 = 1) (hn : fillNo o = n) (h : Seg e R s₀ (.fill (fillNo o + 1)) (k ⟨⟩)) :
    Seg e R s₀ (.fill n) (Prog.lift (.store slabB (Rect.unit (s := S12288) ![o] S16.size inb)
      (shapeCast S16 (shapeCast S16 (lane e.row c) h₁) h₂) Finset.univ hx hm) >>= k) :=
  Seg.store_slabB (s₁ := (.fill n)) (s := (.fill (fillNo o + 1))) trivial trivial (fun _ _ hs hf => holds_row hf ho hk hn (hc ▸ hs)) h

/-- The next store of a depth block. -/
theorem Seg.dep_slabA {o c n : ℕ} {inb : ∀ a, (![o] : Fin 1 → ℕ) a + S16.size a ≤ S12288.size a}
    {h₁ h₂ : S16.ShapeCasts S16} {hx hm} {k : PUnit → TileProg e} (hc : c = o / 3072 * 1024 + o % 1024) (ho : o % 16 = 0)
    (hk : o / 1024 % 3 = 2) (hn : fillNo o = n) (h : Seg e R (.fill (fillNo o + 1)) s₁ (k ⟨⟩)) :
    Seg e R (.fill n) s₁ (Prog.lift (.store slabA (Rect.unit (s := S12288) ![o] S16.size inb)
      (shapeCast S16 (shapeCast S16 (lane e.dep c) h₁) h₂) Finset.univ hx hm) >>= k) :=
  Seg.store_slabA (s₀ := (.fill n)) (s := (.fill (fillNo o + 1))) trivial trivial (fun _ _ hs hf => holds_dep hf ho hk hn (hc ▸ hs)) h

/-- The next store of a depth block. -/
theorem Seg.dep_slabB {o c n : ℕ} {inb : ∀ a, (![o] : Fin 1 → ℕ) a + S16.size a ≤ S12288.size a}
    {h₁ h₂ : S16.ShapeCasts S16} {hx hm} {k : PUnit → TileProg e} (hc : c = o / 3072 * 1024 + o % 1024) (ho : o % 16 = 0)
    (hk : o / 1024 % 3 = 2) (hn : fillNo o = n) (h : Seg e R s₀ (.fill (fillNo o + 1)) (k ⟨⟩)) :
    Seg e R s₀ (.fill n) (Prog.lift (.store slabB (Rect.unit (s := S12288) ![o] S16.size inb)
      (shapeCast S16 (shapeCast S16 (lane e.dep c) h₁) h₂) Finset.univ hx hm) >>= k) :=
  Seg.store_slabB (s₁ := (.fill n)) (s := (.fill (fillNo o + 1))) trivial trivial (fun _ _ hs hf => holds_dep hf ho hk hn (hc ▸ hs)) h

/-- The next store of a column block. -/
theorem Seg.col_slabA {w : ℕ} {o c n : ℕ} {inb : ∀ a, (![o] : Fin 1 → ℕ) a + S16.size a ≤ S12288.size a}
    {h₁ h₂ : S16.ShapeCasts S16} {hx hm} {k : PUnit → TileProg e} (hc : c = w * 128 + o % 128) (ho : o % 16 = 0)
    (hk : o / 1024 % 3 = 0) (hn : patchNo o = n) (h : Seg e R (.patch w (patchNo o + 1)) s₁ (k ⟨⟩)) :
    Seg e R (.patch w n) s₁ (Prog.lift (.store slabA (Rect.unit (s := S12288) ![o] S16.size inb)
      (shapeCast S16 (shapeCast S16 (lane e.col c) h₁) h₂) Finset.univ hx hm) >>= k) :=
  Seg.store_slabA (s₀ := (.patch w n)) (s := (.patch w (patchNo o + 1))) trivial trivial (fun _ _ hs hf => holds_col hf ho hk hn (hc ▸ hs)) h

/-- The next store of a column block. -/
theorem Seg.col_slabB {w : ℕ} {o c n : ℕ} {inb : ∀ a, (![o] : Fin 1 → ℕ) a + S16.size a ≤ S12288.size a}
    {h₁ h₂ : S16.ShapeCasts S16} {hx hm} {k : PUnit → TileProg e} (hc : c = w * 128 + o % 128) (ho : o % 16 = 0)
    (hk : o / 1024 % 3 = 0) (hn : patchNo o = n) (h : Seg e R s₀ (.patch w (patchNo o + 1)) (k ⟨⟩)) :
    Seg e R s₀ (.patch w n) (Prog.lift (.store slabB (Rect.unit (s := S12288) ![o] S16.size inb)
      (shapeCast S16 (shapeCast S16 (lane e.col c) h₁) h₂) Finset.univ hx hm) >>= k) :=
  Seg.store_slabB (s₁ := (.patch w n)) (s := (.patch w (patchNo o + 1))) trivial trivial (fun _ _ hs hf => holds_col hf ho hk hn (hc ▸ hs)) h

/-- A piece of the program by itself: what it leaves is known for every program that follows it. A piece may end in a
    load whose result the rest is given but does not use, which is why its result may depend on some `v`. -/
theorem Seg.cut {α : Type} {R' : sProp (MM F)} {s₀' s₁' : State} {p : Prog (TpuEff nD τ sig (Elt F) Λ₀ (.scVector (cV e.L) (jV e.L))) α}
    {k : α → TileProg e} (r : (S16.Idx → F .f32) → α)
    (h₁ : ∀ (_ : S16.Idx → F .f32) (k' : α → TileProg e), (∀ v, Seg e R' s₀' s₁' (k' (r v))) → Seg e R s₀ s₁ (p >>= k'))
    (h₂ : ∀ v, Seg e R' s₀' s₁' (k (r v))) : Seg e R s₀ s₁ (p >>= k) :=
  h₁ (lane e.col 0) k h₂

end Cert.Proof.Embed
end
-- ==== Proof.Flow.lean ====
/-
  The copies from the two slabs into the result, and the waits for them.

  A tile fills two pieces of the result from each slab: piece `r` (for `r` = 0, 1) of width `w`. Both copies of a slab
  go on one semaphore; the two waits on it return the slab and the pieces together, at the second wait. `Air` says how
  far that has come for one slab, and `rest` is all that a tile holds beside its tables and slabs.
-/
module

public import proofs.«01_k».proof.Proof.Step

@[expose] public section

noncomputable section

namespace Cert.Proof.Embed

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The pieces of the result -/

/-- Where piece `r` of width `w` begins, for the tile at `L`. -/
def pieceOff (L : grid0.Coords) (r w : ℕ) : ℕ := 12582912 * r + 786432 * (L 1).val + 393216 * (L 0).val + 12288 * w

/-- The positions of that piece. -/
def pieceSet (L : grid0.Coords) (r w : ℕ) : Finset S25165824.Idx :=
  Finset.univ.filter fun x => pieceOff L r w ≤ (x 0).val ∧ (x 0).val < pieceOff L r w + 12288

theorem mem_pieceSet {L : grid0.Coords} {r w : ℕ} {x : S25165824.Idx} :
    x ∈ pieceSet L r w ↔ pieceOff L r w ≤ (x 0).val ∧ (x 0).val < pieceOff L r w + 12288 := by
  simp [pieceSet]

/-- The result's view of one piece. -/
abbrev pieceM {off : Fin 1 → ℕ} (inb : ∀ a, off a + S12288.size a ≤ S25165824.size a) : Memref sig .scVector .hbm S12288 .f32 :=
  outH.slice (Rect.unit (s := S25165824) off S12288.size inb) (fun _ => rfl)

theorem pieceM_emb {off : Fin 1 → ℕ} (inb : ∀ a, off a + S12288.size a ≤ S25165824.size a) (y : S12288.Idx) :
    (((pieceM inb).view.emb y : S25165824.Idx) 0).val = off 0 + (y 0).val := by
  show off 0 + 1 * (y 0).val = _
  omega

theorem pieceM_set {L : grid0.Coords} {r w : ℕ} {off : Fin 1 → ℕ} (inb : ∀ a, off a + S12288.size a ≤ S25165824.size a)
    (hoff : off = ![pieceOff L r w]) : (pieceM inb).view.set = pieceSet L r w := by
  ext x
  rw [mem_pieceSet]
  constructor
  · intro hm
    obtain ⟨y, -, hy⟩ := Finset.mem_map.mp hm
    have hv := pieceM_emb inb y
    have hy' : (y 0).val < 12288 := (y 0).isLt
    have h0 : off 0 = pieceOff L r w := by rw [hoff]; rfl
    rw [hy, h0] at hv
    omega
  · intro h
    refine Finset.mem_map.mpr ⟨fun | 0 => ⟨(x 0).val - pieceOff L r w, show _ < 12288 by omega⟩, Finset.mem_univ _, ?_⟩
    funext a
    apply Fin.ext
    match a with
    | 0 =>
      refine (pieceM_emb inb _).trans ?_
      have h0 : off 0 = pieceOff L r w := by rw [hoff]; rfl
      exact (congrArg (· + _) h0).trans (by show pieceOff L r w + ((x 0).val - pieceOff L r w) = (x 0).val; omega)

/-! ## What a tile holds beside its tables and slabs -/

variable (e : Env F)

/-- The rest of what a tile is given: its debts, the result as it finds it and as it is to leave it, and what it only keeps. -/
structure Job where
  O : CellTallies nD τ sig (HIx 1)
  old : S25165824.Idx → F .f32
  new : S25165824.Idx → F .f32
  new_eq : ∀ r w, r < 2 → w < 32 → ∀ x : S25165824.Idx, x ∈ pieceSet e.L r w →
    new x = target e.col e.row e.dep w ((x 0).val - pieceOff e.L r w)
  keep : sProp (MM F)

variable {e} (J : Job e)

variable (e) in
/-- A slab at share `q`, complete for width `w`. -/
def slabAt (b : Bool) (q : PosShare TreeShare) (w : ℕ) : sProp (MM F) :=
  match b with
  | false => slabA.view.loc (thr e.d e.L) ↦{q} fun x => target e.col e.row e.dep w (x 0).val
  | true => slabB.view.loc (thr e.d e.L) ↦{q} fun x => target e.col e.row e.dep w (x 0).val

variable (e) in
/-- A piece of the result at contents `f`. -/
def piece (f : S25165824.Idx → F .f32) (r w : ℕ) : sProp (MM F) :=
  outH.view.loc (thr e.d e.L) ↦[pieceSet e.L r w]{fullShare} f

/-- The half of a slab that copy `r` reads. -/
def half : ℕ → PosShare TreeShare
  | 0 => fullShare.left
  | _ => fullShare.right

/-- What copy `r` of width `w` leaves: the piece written, and its half of the slab. -/
def landed (b : Bool) (w : ℕ) (r : Fin 2) : sProp (MM F) := iprop(piece e J.new r.val w ∗ slabAt e b (half r.val) w)

instance landed_storable (b : Bool) (w : ℕ) (r : Fin 2) : Storable (upEmb : UEmb _ (MM F)) (landed J b w r) := by
  unfold landed piece
  cases b <;> (unfold slabAt; infer_instance)

/-- The semaphore of a slab's copies. -/
def slabSem : Bool → DmaSem sig
  | false => cc0_scratch5.sem
  | true => cc0_scratch6.sem

/-- What one copy credits. -/
def credit : ℕ := (pieceM inb_S25165824_S12288_0).view.dmaCredit

theorem credit_pos : 0 < credit := View.dmaCredit_pos _ (show 0 < S12288.numel by decide)

/-- How far the copies of a slab have come: none on the way; the first of width `w` issued; both; one wait made. -/
inductive Air where
  | idle
  | one (w : ℕ)
  | both (w : ℕ)
  | last (w : ℕ)

/-- What the tile holds of the slab's copies then. -/
def air (b : Bool) : Air → sProp (MM F)
  | .idle => semVal (thr e.d e.L, .dma (slabSem b)) 0
  | .one w => iprop(Transfers.Batch EC (thr e.d e.L) (.dma (slabSem b)) (default : HIx 1) credit (landed J b w) 1 0
      ∗ slabAt e b fullShare.right w ∗ piece e J.old 1 w)
  | .both w => Transfers.Batch EC (thr e.d e.L) (.dma (slabSem b)) (default : HIx 1) credit (landed J b w) 2 0
  | .last w => Transfers.Batch EC (thr e.d e.L) (.dma (slabSem b)) (default : HIx 1) credit (landed J b w) 2 credit

/-- The pieces of the widths from `n` on, as they were found. -/
def todo (n : ℕ) : sProp (MM F) := bigSep (Finset.Ico n 32) fun w => iprop(piece e J.old 0 w ∗ piece e J.old 1 w)
/-- The pieces of the widths before `m`, as they are to be left. -/
def done (m : ℕ) : sProp (MM F) := bigSep (Finset.range m) fun w => iprop(piece e J.new 0 w ∗ piece e J.new 1 w)

/-- All that the tile holds beside its tables and slabs. -/
def rest (a b : Air) (n m : ℕ) : sProp (MM F) :=
  iprop(Transfers.MayWaits (thr e.d e.L) (default : HIx 1) J.O ∗ (∃ W, owes (thr e.d e.L) J.O W)
    ∗ air J false a ∗ air J true b ∗ todo J n ∗ done J m ∗ J.keep)

omit [FloatOps F] in
theorem todo_succ {n : ℕ} (h : n < 32) :
    todo J n = iprop((piece e J.old 0 n ∗ piece e J.old 1 n) ∗ todo J (n + 1)) := by
  unfold todo
  rw [show Finset.Ico n 32 = insert n (Finset.Ico (n + 1) 32) by ext x; simp; omega, bigSep_insert (by simp)]
  rfl

omit [FloatOps F] in
theorem done_succ (m : ℕ) :
    done J (m + 1) = iprop((piece e J.new 0 m ∗ piece e J.new 1 m) ∗ done J m) := by
  unfold done
  rw [Finset.range_add_one, bigSep_insert (by simp)]
  rfl

/-! ## A slab goes away and comes back -/

variable {R : sProp (MM F)} {s₀ s₁ : State}

omit [FloatOps F] in
/-- A complete slab in halves. -/
theorem slabAt_halves (b : Bool) (w : ℕ) :
    (slabAt e b fullShare w : sProp (MM F)) ⊣⊢ iprop(slabAt e b fullShare.left w ∗ slabAt e b fullShare.right w) := by
  cases b <;> exact pointsTo_share (PosShare.mem_left_op_right _)

omit [FloatOps F] in
/-- A slab with all its column blocks stored is complete. -/
theorem slabRes_all (b : Bool) (w : ℕ) : slabRes e b (.patch w 256) ⊢ slabAt e b fullShare w := by
  rw [slabRes_here (show State.here (.patch _ _) from trivial)]
  iintro ⟨%f, %hf, Hs⟩
  rw [holds_all hf]
  unfold slabPts slabAt
  cases b <;> iexact Hs

omit [FloatOps F] in
/-- A slab complete for one width is ready for the columns of any other. -/
theorem slabRes_again (b : Bool) (w w' : ℕ) : slabAt e b fullShare w ⊢ slabRes e b (.patch w' 0) := by
  rw [slabRes_here (show State.here (.patch _ _) from trivial)]
  iintro Hs
  iexists fun x => target e.col e.row e.dep w (x 0).val
  isplitr
  · ipureintro; exact holds_patch_of_all w w'
  unfold slabPts slabAt
  cases b <;> iexact Hs

omit [FloatOps F] in
/-- What a copy delivers. -/
theorem copied (b : Bool) {w : ℕ} (hw : w < 32) (r : Fin 2) {off : Fin 1 → ℕ} {inb : ∀ a, off a + S12288.size a ≤ S25165824.size a}
    (hoff : off = ![pieceOff e.L r.val w]) (f : S12288.Idx → F .f32) (hf : f = fun x => target e.col e.row e.dep w (x 0).val) :
    iprop((outH.view.loc (thr e.d e.L) ↦[pieceSet e.L r.val w]{fullShare} (pieceM inb).view.write (Elt F) J.old f Finset.univ)
      ∗ slabAt e b (half r.val) w) ⊢ landed J b w r := by
  unfold landed piece
  rw [pointsTo_congr (g := J.new)]
  intro x hx
  rw [J.new_eq r.val w r.isLt hw x hx]
  have hx' := mem_pieceSet.mp hx
  have hs := hx
  rw [← pieceM_set inb hoff] at hs
  obtain ⟨y, -, rfl⟩ := Finset.mem_map.mp hs
  rw [View.write_emb_of_mem _ _ (Finset.mem_univ _), hf]
  refine congrArg (target e.col e.row e.dep w) ?_
  have hv := pieceM_emb inb y
  have h0 : off 0 = pieceOff e.L r.val w := by rw [hoff]; rfl
  rw [h0] at hv
  omega

/-! ## The four operations on a slab's copies -/

/-- A slab, as the program names it. -/
@[reducible] def slabM : Bool → Memref sig .scVector .vmem S12288 .f32
  | false => slabA
  | true => slabB

variable (e) in
/-- The contents of a slab complete for width `w`. -/
def slabF (b : Bool) (w : ℕ) : Buf (Elt F) ((slabM b).view.loc (thr e.d e.L)) :=
  match b with
  | false => fun x => target e.col e.row e.dep w (x 0).val
  | true => fun x => target e.col e.row e.dep w (x 0).val

omit [FloatOps F] in
theorem slabAt_set (b : Bool) (q : PosShare TreeShare) (w : ℕ) :
    (slabAt e b q w : sProp (MM F)) = ((slabM b).view.loc (thr e.d e.L) ↦[(slabM b).view.set]{q} slabF e b w) := by
  unfold slabAt slabF slabM
  cases b <;> simp only [Memref.whole, View.set_whole]

omit [FloatOps F] in
theorem slabF_read (b : Bool) (w : ℕ) :
    (slabM b).view.read (Elt F) (slabF e b w) = fun x => target e.col e.row e.dep w (x 0).val := by
  cases b <;> rfl

/-- The first copy of a complete slab is issued. -/
theorem wp_fire₀ (b : Bool) {w : ℕ} (hw : w < 32) {off : Fin 1 → ℕ} {inb : ∀ a, off a + S12288.size a ≤ S25165824.size a}
    (hoff : off = ![pieceOff e.L 0 w]) {h₁ h₂ h₃} {k : PUnit → TileProg e} :
    iprop(slabAt e b fullShare w ∗ air J b .idle ∗ piece e J.old 0 w ∗ piece e J.old 1 w)
      ⊢ iprop((air J b (.one w) -∗ wp frame (wpE (defs₀ (F := F)) 𝒱₀ (thr e.d e.L) none) Set.univ (k ⟨⟩) fun _ => e.Q)
        -∗ wp frame (wpE (defs₀ (F := F)) 𝒱₀ (thr e.d e.L) none) Set.univ
          (Prog.lift (.enqueueDma (slabM b) (.here (pieceM inb)) (.dma (slabSem b)) h₁ h₂ h₃) >>= k) fun _ => e.Q) := by
  rw [Prog.bind_lift]
  unfold air
  iintro ⟨Hs, Hair, Hp₀, Hp₁⟩ Hk
  ihave Hs' := (slabAt_halves b w).1 $$ Hs
  icases Hs' with ⟨Hl, Hr⟩
  imod (Transfers.batch_alloc' EC (thr e.d e.L) (default : HIx 1) credit (landed J b w)) $$ Hair with Hbat
  ihave Hl' := (Entails.of_eq (slabAt_set b _ w)) $$ Hl
  iapply (Transfers.wp_dmaBatch EC 𝒱₀ (thr e.d e.L) none (src := slabM b) (dst := pieceM inb) (j := 0) (u := 0) (D := landed J b w)
    (Sd := pieceSet e.L 0 w) (fs := slabF e b w) (fd := J.old) (default : HIx 1) credit rfl (pieceM_set inb hoff).subset (by decide) (by decide)
    (by
      rw [← slabAt_set]
      exact copied J b hw 0 hoff _ (slabF_read b w))) $$ [Hl' Hp₀ Hbat]
  · isplitl [Hl']; · iexact Hl'
    isplitl [Hp₀]; · unfold piece; iexact Hp₀
    iexact Hbat
  iintro Hbat
  iapply Hk
  isplitl [Hbat]; · iexact Hbat
  isplitl [Hr]; · iexact Hr
  iexact Hp₁

/-- The second copy is issued. -/
theorem wp_fire₁ (b : Bool) {w : ℕ} (hw : w < 32) {off : Fin 1 → ℕ} {inb : ∀ a, off a + S12288.size a ≤ S25165824.size a}
    (hoff : off = ![pieceOff e.L 1 w]) {h₁ h₂ h₃} {k : PUnit → TileProg e} :
    air J b (.one w)
      ⊢ iprop((air J b (.both w) -∗ wp frame (wpE (defs₀ (F := F)) 𝒱₀ (thr e.d e.L) none) Set.univ (k ⟨⟩) fun _ => e.Q)
        -∗ wp frame (wpE (defs₀ (F := F)) 𝒱₀ (thr e.d e.L) none) Set.univ
          (Prog.lift (.enqueueDma (slabM b) (.here (pieceM inb)) (.dma (slabSem b)) h₁ h₂ h₃) >>= k) fun _ => e.Q) := by
  rw [Prog.bind_lift]
  unfold air
  iintro ⟨Hbat, Hr, Hp₁⟩ Hk
  ihave Hr' := (Entails.of_eq (slabAt_set b _ w)) $$ Hr
  iapply (Transfers.wp_dmaBatch EC 𝒱₀ (thr e.d e.L) none (src := slabM b) (dst := pieceM inb) (j := 1) (u := 0) (D := landed J b w)
    (Sd := pieceSet e.L 1 w) (fs := slabF e b w) (fd := J.old) (default : HIx 1) credit rfl (pieceM_set inb hoff).subset (by decide) (Nat.zero_le _)
    (by
      rw [← slabAt_set]
      exact copied J b hw 1 hoff _ (slabF_read b w))) $$ [Hr' Hp₁ Hbat]
  · isplitl [Hr']; · iexact Hr'
    isplitl [Hp₁]; · unfold piece; iexact Hp₁
    iexact Hbat
  iintro Hbat
  iapply Hk
  iexact Hbat

/-- The first wait, after which nothing is back yet. -/
theorem wp_wait₀ (b : Bool) {w : ℕ} {h₁ h₂} {k : PUnit → TileProg e} {W : Waits sig (HIx 1)} :
    iprop(air J b (.both w) ∗ owes (thr e.d e.L) J.O W ∗ Transfers.MayWaits (thr e.d e.L) (default : HIx 1) J.O)
      ⊢ iprop((iprop(air J b (.last w) ∗ ∃ W', owes (thr e.d e.L) J.O W')
          -∗ wp frame (wpE (defs₀ (F := F)) 𝒱₀ (thr e.d e.L) none) Set.univ (k ⟨⟩) fun _ => e.Q)
        -∗ wp frame (wpE (defs₀ (F := F)) 𝒱₀ (thr e.d e.L) none) Set.univ
          (Prog.lift (.waitDma2 (slabSem b) (slabM b) (pieceM inb_S25165824_S12288_0) h₁ h₂) >>= k) fun _ => e.Q) := by
  rw [Prog.bind_lift]
  unfold air
  iintro ⟨Hbat, HO, #Hmw⟩ Hk
  iapply (Transfers.wp_waitBatchO EC 𝒱₀ (thr e.d e.L) none (u := 0) (D := landed J b w) (default : HIx 1) (N := credit) rfl
    (by have := credit_pos; omega)) $$ [Hbat HO]
  · isplitl [Hbat]; · iexact Hbat
    isplitl [HO]; · iexact HO
    iapply (Transfers.MayWaits.elim (.dma (slabSem b))); iexact Hmw
  iintro ⟨Hbat, HO⟩
  iapply Hk
  rw [Nat.zero_add]
  isplitl [Hbat]; · iexact Hbat
  iexists _; iexact HO

/-- The second wait: the slab is back, and both pieces are written. -/
theorem wp_wait₁ (b : Bool) {w : ℕ} {h₁ h₂} {k : PUnit → TileProg e} {W : Waits sig (HIx 1)} :
    iprop(air J b (.last w) ∗ owes (thr e.d e.L) J.O W ∗ Transfers.MayWaits (thr e.d e.L) (default : HIx 1) J.O)
      ⊢ iprop((iprop(slabAt e b fullShare w ∗ air J b .idle ∗ (piece e J.new 0 w ∗ piece e J.new 1 w) ∗ ∃ W', owes (thr e.d e.L) J.O W')
          -∗ wp frame (wpE (defs₀ (F := F)) 𝒱₀ (thr e.d e.L) none) Set.univ (k ⟨⟩) fun _ => e.Q)
        -∗ wp frame (wpE (defs₀ (F := F)) 𝒱₀ (thr e.d e.L) none) Set.univ
          (Prog.lift (.waitDma2 (slabSem b) (slabM b) (pieceM inb_S25165824_S12288_0) h₁ h₂) >>= k) fun _ => e.Q) := by
  rw [Prog.bind_lift]
  unfold air
  iintro ⟨Hbat, HO, #Hmw⟩ Hk
  iapply (Transfers.wp_waitBatchLastO EC 𝒱₀ (thr e.d e.L) none (u := credit) (D := landed J b w) (default : HIx 1) (N := credit) rfl credit_pos
    (by omega)) $$ [Hbat HO]
  · isplitl [Hbat]; · iexact Hbat
    isplitl [HO]; · iexact HO
    iapply (Transfers.MayWaits.elim (.dma (slabSem b))); iexact Hmw
  iintro ⟨HD, Hsem, HO⟩
  iapply Hk
  ihave HD' := (show bigSep Finset.univ (landed J b w) ⊢ iprop(landed J b w 0 ∗ landed J b w 1) from
    Entails.of_eq (by rw [show (Finset.univ : Finset (Fin 2)) = {0, 1} from rfl, bigSep_insert (by decide), bigSep_singleton]; rfl)) $$ HD
  unfold landed half
  icases HD' with ⟨⟨Hp₀, Hl⟩, ⟨Hp₁, Hr⟩⟩
  isplitl [Hl Hr]
  · iapply (slabAt_halves b w).2
    isplitl [Hl]; · iexact Hl
    iexact Hr
  isplitl [Hsem]; · iexact Hsem
  isplitl [Hp₀ Hp₁]
  · isplitl [Hp₀]; · iexact Hp₀
    iexact Hp₁
  iexists _; iexact HO

/-! ## The same as rules of `Seg` -/

variable {J} {a b : Air} {n m w : ℕ}

theorem Seg.fireA₀ {c : ℕ} {off : Fin 1 → ℕ} {inb : ∀ a, off a + S12288.size a ≤ S25165824.size a} {h₁ h₂ h₃} {k : PUnit → TileProg e}
    (hw : w < 32) (hoff : off = ![pieceOff e.L 0 w]) (hc : c = 256) (h : Seg e (rest J (.one w) b (w + 1) m) .away s₁ (k ⟨⟩)) :
    Seg e (rest J .idle b w m) (.patch w c) s₁ (Prog.lift (.enqueueDma slabA (.here (pieceM inb)) (.dma cc0_scratch5.sem) h₁ h₂ h₃) >>= k) := by
  subst hc
  unfold Seg rest at *
  rw [todo_succ J hw]
  iintro ⟨Ht, Hs, Hs₁, #Hmw, HO, Ha, Hb, ⟨⟨Hp₀, Hp₁⟩, Htodo⟩, Hdone⟩
  ihave Hs' := (slabRes_all false w) $$ Hs
  iapply (wp_fire₀ J false hw hoff) $$ [Hs' Ha Hp₀ Hp₁]
  · isplitl [Hs']; · iexact Hs'
    isplitl [Ha]; · iexact Ha
    isplitl [Hp₀]; · iexact Hp₀
    iexact Hp₁
  iintro Ha
  iapply h
  isplitl [Ht]; · iexact Ht
  isplitr; · unfold slabRes; iempintro
  isplitl [Hs₁]; · iexact Hs₁
  isplitr; · iexact Hmw
  isplitl [HO]; · iexact HO
  isplitl [Ha]; · iexact Ha
  isplitl [Hb]; · iexact Hb
  isplitl [Htodo]; · iexact Htodo
  iexact Hdone

theorem Seg.fireB₀ {c : ℕ} {off : Fin 1 → ℕ} {inb : ∀ a, off a + S12288.size a ≤ S25165824.size a} {h₁ h₂ h₃} {k : PUnit → TileProg e}
    (hw : w < 32) (hoff : off = ![pieceOff e.L 0 w]) (hc : c = 256) (h : Seg e (rest J a (.one w) (w + 1) m) s₀ .away (k ⟨⟩)) :
    Seg e (rest J a .idle w m) s₀ (.patch w c) (Prog.lift (.enqueueDma slabB (.here (pieceM inb)) (.dma cc0_scratch6.sem) h₁ h₂ h₃) >>= k) := by
  subst hc
  unfold Seg rest at *
  rw [todo_succ J hw]
  iintro ⟨Ht, Hs₀, Hs, #Hmw, HO, Ha, Hb, ⟨⟨Hp₀, Hp₁⟩, Htodo⟩, Hdone⟩
  ihave Hs' := (slabRes_all true w) $$ Hs
  iapply (wp_fire₀ J true hw hoff) $$ [Hs' Hb Hp₀ Hp₁]
  · isplitl [Hs']; · iexact Hs'
    isplitl [Hb]; · iexact Hb
    isplitl [Hp₀]; · iexact Hp₀
    iexact Hp₁
  iintro Hb
  iapply h
  isplitl [Ht]; · iexact Ht
  isplitl [Hs₀]; · iexact Hs₀
  isplitr; · unfold slabRes; iempintro
  isplitr; · iexact Hmw
  isplitl [HO]; · iexact HO
  isplitl [Ha]; · iexact Ha
  isplitl [Hb]; · iexact Hb
  isplitl [Htodo]; · iexact Htodo
  iexact Hdone

theorem Seg.fireA₁ {off : Fin 1 → ℕ} {inb : ∀ a, off a + S12288.size a ≤ S25165824.size a} {h₁ h₂ h₃} {k : PUnit → TileProg e}
    (hw : w < 32) (hoff : off = ![pieceOff e.L 1 w]) (h : Seg e (rest J (.both w) b n m) s₀ s₁ (k ⟨⟩)) :
    Seg e (rest J (.one w) b n m) s₀ s₁ (Prog.lift (.enqueueDma slabA (.here (pieceM inb)) (.dma cc0_scratch5.sem) h₁ h₂ h₃) >>= k) := by
  unfold Seg rest at *
  iintro ⟨Ht, Hs₀, Hs₁, #Hmw, HO, Ha, Hb⟩
  iapply (wp_fire₁ J false hw hoff) $$ Ha
  iintro Ha
  iapply h
  isplitl [Ht]; · iexact Ht
  isplitl [Hs₀]; · iexact Hs₀
  isplitl [Hs₁]; · iexact Hs₁
  isplitr; · iexact Hmw
  isplitl [HO]; · iexact HO
  isplitl [Ha]; · iexact Ha
  iexact Hb

theorem Seg.fireB₁ {off : Fin 1 → ℕ} {inb : ∀ a, off a + S12288.size a ≤ S25165824.size a} {h₁ h₂ h₃} {k : PUnit → TileProg e}
    (hw : w < 32) (hoff : off = ![pieceOff e.L 1 w]) (h : Seg e (rest J a (.both w) n m) s₀ s₁ (k ⟨⟩)) :
    Seg e (rest J a (.one w) n m) s₀ s₁ (Prog.lift (.enqueueDma slabB (.here (pieceM inb)) (.dma cc0_scratch6.sem) h₁ h₂ h₃) >>= k) := by
  unfold Seg rest at *
  iintro ⟨Ht, Hs₀, Hs₁, #Hmw, HO, Ha, Hb, Hr⟩
  iapply (wp_fire₁ J true hw hoff) $$ Hb
  iintro Hb
  iapply h
  isplitl [Ht]; · iexact Ht
  isplitl [Hs₀]; · iexact Hs₀
  isplitl [Hs₁]; · iexact Hs₁
  isplitr; · iexact Hmw
  isplitl [HO]; · iexact HO
  isplitl [Ha]; · iexact Ha
  isplitl [Hb]; · iexact Hb
  iexact Hr

theorem Seg.waitA₀ {h₁ h₂} {k : PUnit → TileProg e} (h : Seg e (rest J (.last w) b n m) s₀ s₁ (k ⟨⟩)) :
    Seg e (rest J (.both w) b n m) s₀ s₁
      (Prog.lift (.waitDma2 cc0_scratch5.sem slabA (pieceM inb_S25165824_S12288_0) h₁ h₂) >>= k) := by
  unfold Seg rest at *
  iintro ⟨Ht, Hs₀, Hs₁, #Hmw, ⟨%W, HO⟩, Ha, Hb⟩
  iapply (wp_wait₀ J false (W := W)) $$ [Ha HO]
  · isplitl [Ha]; · iexact Ha
    isplitl [HO]; · iexact HO
    iexact Hmw
  iintro ⟨Ha, HO⟩
  iapply h
  isplitl [Ht]; · iexact Ht
  isplitl [Hs₀]; · iexact Hs₀
  isplitl [Hs₁]; · iexact Hs₁
  isplitr; · iexact Hmw
  isplitl [HO]; · iexact HO
  isplitl [Ha]; · iexact Ha
  iexact Hb

theorem Seg.waitB₀ {h₁ h₂} {k : PUnit → TileProg e} (h : Seg e (rest J a (.last w) n m) s₀ s₁ (k ⟨⟩)) :
    Seg e (rest J a (.both w) n m) s₀ s₁
      (Prog.lift (.waitDma2 cc0_scratch6.sem slabB (pieceM inb_S25165824_S12288_0) h₁ h₂) >>= k) := by
  unfold Seg rest at *
  iintro ⟨Ht, Hs₀, Hs₁, #Hmw, ⟨%W, HO⟩, Ha, Hb, Hr⟩
  iapply (wp_wait₀ J true (W := W)) $$ [Hb HO]
  · isplitl [Hb]; · iexact Hb
    isplitl [HO]; · iexact HO
    iexact Hmw
  iintro ⟨Hb, HO⟩
  iapply h
  isplitl [Ht]; · iexact Ht
  isplitl [Hs₀]; · iexact Hs₀
  isplitl [Hs₁]; · iexact Hs₁
  isplitr; · iexact Hmw
  isplitl [HO]; · iexact HO
  isplitl [Ha]; · iexact Ha
  isplitl [Hb]; · iexact Hb
  iexact Hr

/-- After its second wait a slab may be given the columns of any width `w'`. -/
theorem Seg.waitA₁ {h₁ h₂} {k : PUnit → TileProg e} (w' : ℕ) (h : Seg e (rest J .idle b n (w + 1)) (.patch w' 0) s₁ (k ⟨⟩)) :
    Seg e (rest J (.last w) b n w) .away s₁
      (Prog.lift (.waitDma2 cc0_scratch5.sem slabA (pieceM inb_S25165824_S12288_0) h₁ h₂) >>= k) := by
  unfold Seg rest at *
  rw [done_succ] at h
  iintro ⟨Ht, -, Hs₁, #Hmw, ⟨%W, HO⟩, Ha, Hb, Htodo, Hdone, Hr⟩
  iapply (wp_wait₁ J false (W := W)) $$ [Ha HO]
  · isplitl [Ha]; · iexact Ha
    isplitl [HO]; · iexact HO
    iexact Hmw
  iintro ⟨Hs, Ha, Hp, HO⟩
  iapply h
  isplitl [Ht]; · iexact Ht
  isplitl [Hs]; · iapply (slabRes_again false w w'); iexact Hs
  isplitl [Hs₁]; · iexact Hs₁
  isplitr; · iexact Hmw
  isplitl [HO]; · iexact HO
  isplitl [Ha]; · iexact Ha
  isplitl [Hb]; · iexact Hb
  isplitl [Htodo]; · iexact Htodo
  isplitl [Hp Hdone]
  · isplitl [Hp]; · iexact Hp
    iexact Hdone
  iexact Hr

theorem Seg.waitB₁ {h₁ h₂} {k : PUnit → TileProg e} (w' : ℕ) (h : Seg e (rest J a .idle n (w + 1)) s₀ (.patch w' 0) (k ⟨⟩)) :
    Seg e (rest J a (.last w) n w) s₀ .away
      (Prog.lift (.waitDma2 cc0_scratch6.sem slabB (pieceM inb_S25165824_S12288_0) h₁ h₂) >>= k) := by
  unfold Seg rest at *
  rw [done_succ] at h
  iintro ⟨Ht, Hs₀, -, #Hmw, ⟨%W, HO⟩, Ha, Hb, Htodo, Hdone, Hr⟩
  iapply (wp_wait₁ J true (W := W)) $$ [Hb HO]
  · isplitl [Hb]; · iexact Hb
    isplitl [HO]; · iexact HO
    iexact Hmw
  iintro ⟨Hs, Hb, Hp, HO⟩
  iapply h
  isplitl [Ht]; · iexact Ht
  isplitl [Hs₀]; · iexact Hs₀
  isplitl [Hs]; · iapply (slabRes_again true w w'); iexact Hs
  isplitr; · iexact Hmw
  isplitl [HO]; · iexact HO
  isplitl [Ha]; · iexact Ha
  isplitl [Hb]; · iexact Hb
  isplitl [Htodo]; · iexact Htodo
  isplitl [Hp Hdone]
  · isplitl [Hp]; · iexact Hp
    iexact Hdone
  iexact Hr

/-! ## From the row and depth blocks to the columns, and the end -/

omit [FloatOps F] in
theorem slabRes_filled (b : Bool) (w : ℕ) : slabRes e b (.fill 512) ⊢ slabRes e b (.patch w 0) := by
  rw [slabRes_here (show State.here (.patch _ _) from trivial), slabRes_here (show State.here (.fill _) from trivial)]
  iintro ⟨%f, %hf, Hs⟩
  iexists f
  isplitr; · ipureintro; exact holds_patch_of_fill w hf
  iexact Hs

/-- A slab with all its row and depth blocks stored is ready for the columns of width `w`. -/
theorem Seg.filledA {c : ℕ} {p : TileProg e} (w : ℕ) (hc : c = 512) (h : Seg e R (.patch w 0) s₁ p) : Seg e R (.fill c) s₁ p := by
  subst hc
  unfold Seg at *
  iintro ⟨Ht, Hs, H⟩
  iapply h
  isplitl [Ht]; · iexact Ht
  isplitl [Hs]; · iapply (slabRes_filled false w); iexact Hs
  iexact H

theorem Seg.filledB {c : ℕ} {p : TileProg e} (w : ℕ) (hc : c = 512) (h : Seg e R s₀ (.patch w 0) p) : Seg e R s₀ (.fill c) p := by
  subst hc
  unfold Seg at *
  iintro ⟨Ht, Hs₀, Hs, H⟩
  iapply h
  isplitl [Ht]; · iexact Ht
  isplitl [Hs₀]; · iexact Hs₀
  isplitl [Hs]; · iapply (slabRes_filled true w); iexact Hs
  iexact H

/-- The end of the program. -/
theorem Seg.ret (h : iprop(tables e ∗ slabRes e false s₀ ∗ slabRes e true s₁ ∗ R) ⊢ e.Q) : Seg e R s₀ s₁ (pure ⟨⟩) := by
  unfold Seg
  rw [wp_pure]
  iintro H
  imodintro
  iapply h
  iexact H

/-- Sixteen entries of a table from number `c` on, as the program passes them on. -/
abbrev reg (t : ℕ → F .f32) (c : ℕ) : S16.Idx → F .f32 := shapeCast S16 (lane t c) Shapes1.Facts₀.shapeCasts_S16_S16

end Cert.Proof.Embed
end
-- ==== Proof.Begin.lean ====
/-
  The start of a tile's program: it fetches the two shared tables and its own row of the third.
-/
module

public import proofs.«01_k».proof.Proof.Flow

@[expose] public section

noncomputable section

namespace Cert.Proof.Embed

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- An array of 6400 numbers as a table read by number. -/
def unflat (f : S6400.Idx → F .f32) (n : ℕ) : F .f32 := f fun | 0 => ⟨n % 6400, Nat.mod_lt _ (by decide)⟩

variable {e : Env F} {J : Job e}

/-- A fetch: one copy from main memory into a buffer of the tile, waited for at once. -/
theorem wp_fetch {s : Shape} {src : Memref sig .scVector .hbm s .f32} {dst : Memref sig .scVector .vmem s .f32} {sm : DmaSem sig}
    {O : CellTallies nD τ sig (HIx 1)} {q : PosShare TreeShare} {fs : Buf (Elt F) (src.view.loc (thr e.d e.L))}
    {g : Buf (Elt F) (dst.view.loc (thr e.d e.L))} {h₁ h₂ h₃ h₄ h₅} {k : PUnit → TileProg e} (hs : 0 < s.numel)
    (hg : ∀ f, dst.view.write (Elt F) f (src.view.read (Elt F) fs) Finset.univ = g) :
    iprop((src.view.loc (thr e.d e.L) ↦{q} fs) ∗ (∃ f, dst.view.loc (thr e.d e.L) ↦{fullShare} f) ∗ semVal (thr e.d e.L, .dma sm) 0
        ∗ Transfers.MayWaits (thr e.d e.L) (default : HIx 1) O ∗ ∃ W, owes (thr e.d e.L) O W)
      ⊢ iprop((iprop((src.view.loc (thr e.d e.L) ↦{q} fs) ∗ (dst.view.loc (thr e.d e.L) ↦{fullShare} g) ∗ semVal (thr e.d e.L, .dma sm) 0
            ∗ ∃ W, owes (thr e.d e.L) O W)
          -∗ wp frame (wpE (defs₀ (F := F)) 𝒱₀ (thr e.d e.L) none) Set.univ (k ⟨⟩) fun _ => e.Q)
        -∗ wp frame (wpE (defs₀ (F := F)) 𝒱₀ (thr e.d e.L) none) Set.univ
          (Prog.lift (.enqueueDma src (.here dst) (.dma sm) h₁ h₂ h₃) >>= fun _ => Prog.lift (.waitDma2 sm src dst h₄ h₅) >>= k)
          fun _ => e.Q) := by
  rw [Prog.bind_lift]
  iintro ⟨Hs, ⟨%f, Hd⟩, Hv, #Hmw, ⟨%W, HO⟩⟩ Hk
  ihave Hs' := (pointsTo_split_subset (Finset.subset_univ src.view.set)).1 $$ Hs
  icases Hs' with ⟨Hs, Hr⟩
  iapply (Transfers.wp_dmaLocal EC 𝒱₀ (thr e.d e.L) none (default : HIx 1) dst.view.dmaCredit rfl (View.dmaCredit_pos _ hs)
    (Finset.subset_univ _)) $$ [Hs Hd Hv]
  · isplitl [Hs]; · iexact Hs
    isplitl [Hd]; · iexact Hd
    iexact Hv
  iintro Hfl
  rw [Prog.bind_lift]
  iapply (Transfers.wp_waitLocalO EC 𝒱₀ (thr e.d e.L) none (default : HIx 1) rfl) $$ [Hfl HO]
  · isplitl [Hfl]; · iexact Hfl
    isplitl [HO]; · iexact HO
    iapply (Transfers.MayWaits.elim (.dma sm)); iexact Hmw
  iintro ⟨⟨Hd, Hs⟩, Hv, HO⟩
  iapply Hk
  isplitl [Hs Hr]
  · iapply (pointsTo_split_subset (Finset.subset_univ src.view.set)).2
    isplitl [Hs]; · iexact Hs
    iexact Hr
  isplitl [Hd]
  · rw [← hg f]; iexact Hd
  isplitl [Hv]; · iexact Hv
  iexists _; iexact HO

variable (e) in
/-- What the tile keeps for its fetches: a share of each of the three arrays, and three semaphores at 0. -/
def fetch (q : PosShare TreeShare) (col row dep : S6400.Idx → F .f32) : sProp (MM F) :=
  iprop(((colH.view.loc (thr e.d e.L) ↦{q} col) ∗ (rowH.view.loc (thr e.d e.L) ↦{q} row) ∗ (depH.view.loc (thr e.d e.L) ↦{q} dep))
    ∗ semVal (thr e.d e.L, .dma cc0_scoped0.sem) 0 ∗ semVal (thr e.d e.L, .dma cc0_scoped1.sem) 0
    ∗ semVal (thr e.d e.L, .dma cc0_scoped2.sem) 0)

variable (e) in
/-- The tile's own buffers at whatever they hold. -/
def fresh : sProp (MM F) :=
  iprop(((∃ f, colM.view.loc (thr e.d e.L) ↦{fullShare} f) ∗ (∃ f, rowM.view.loc (thr e.d e.L) ↦{fullShare} f)
      ∗ (∃ f, depM.view.loc (thr e.d e.L) ↦{fullShare} f))
    ∗ (∃ f, slabA.view.loc (thr e.d e.L) ↦{fullShare} f) ∗ ∃ f, slabB.view.loc (thr e.d e.L) ↦{fullShare} f)

omit [FloatOps F] in
theorem slabRes_fill (b : Bool) : (iprop(∃ f, slabPts e b f) : sProp (MM F)) ⊢ slabRes e b (.fill 0) := by
  rw [slabRes_here (show State.here (.fill _) from trivial)]
  iintro ⟨%f, H⟩
  iexists f
  isplitr
  · ipureintro; exact fun _ _ h => absurd h (Nat.not_lt_zero _)
  iexact H

/-- The source of the fetches of the two shared tables. -/
abbrev headM (M : Memref sig .scVector .hbm S6400 .f32) : Memref sig .scVector .hbm S4096 .f32 :=
  M.slice (Rect.unit (s := S6400) ![0] S4096.size inb_S6400_S4096_0) (fun _ => rfl)

/-- The source of the fetch of the tile's row. -/
abbrev ownM (L : grid0.Coords) : Memref sig .scVector .hbm S128 .f32 :=
  rowH.slice (Rect.unit (s := S6400) (k0_off1 L) S128.size (k0_off1_inb L)) (fun _ => rfl)

omit [FloatOps F] in
theorem read_head_col (f : S6400.Idx → F .f32) : (headM colH).view.read (Elt F) f = flat 4096 (unflat f) := by
  funext x
  refine congrArg f ?_
  funext a
  match a with
  | 0 =>
    apply Fin.ext
    have hx : (x 0).val < 4096 := (x 0).isLt
    show 0 + 1 * (x 0).val = (x 0).val % 6400
    omega

omit [FloatOps F] in
theorem read_head_dep (f : S6400.Idx → F .f32) : (headM depH).view.read (Elt F) f = flat 4096 (unflat f) := read_head_col f

omit [FloatOps F] in
theorem read_own (L : grid0.Coords) (f : S6400.Idx → F .f32) :
    (ownM L).view.read (Elt F) f = flat 128 (fun n => unflat f (256 * (L 1).val + 128 * (L 0).val + n)) := by
  funext x
  refine congrArg f ?_
  funext a
  match a with
  | 0 =>
    apply Fin.ext
    have hx : (x 0).val < 128 := (x 0).isLt
    have h0 : (L 0).val < 2 := (L 0).isLt
    have h1 : (L 1).val < 16 := (L 1).isLt
    have ho : k0_off1 L 0 = 256 * (L 1).val + 128 * (L 0).val := by rw [k0_off1_eq]; rfl
    show k0_off1 L 0 + 1 * (x 0).val = (256 * (L 1).val + 128 * (L 0).val + (x 0).val) % 6400
    rw [ho]
    omega

/-- The three fetches. -/
theorem wp_fetches {q : PosShare TreeShare} {col row dep : S6400.Idx → F .f32} {X : sProp (MM F)}
    (hcol : e.col = unflat col) (hrow : e.row = fun n => unflat row (256 * (e.L 1).val + 128 * (e.L 0).val + n))
    (hdep : e.dep = unflat dep) (hkeep : J.keep = iprop(fetch e q col row dep ∗ X))
    {h₁ h₂ h₃ h₄ h₅ h₆ h₇ h₈ h₉ g₁ g₂ g₃ g₄ g₅ g₆} {k : PUnit → TileProg e}
    (h : Seg e (rest J .idle .idle 0 0) (.fill 0) (.fill 0) (k ⟨⟩)) :
    iprop(fresh e ∗ rest J .idle .idle 0 0)
      ⊢ wp frame (wpE (defs₀ (F := F)) 𝒱₀ (thr e.d e.L) none) Set.univ
          (Prog.lift (.enqueueDma (headM colH) (.here colM) (.dma cc0_scoped0.sem) h₁ h₂ h₃) >>= fun _ =>
            Prog.lift (.waitDma2 cc0_scoped0.sem (headM colH) colM g₁ g₂) >>= fun _ =>
            Prog.lift (.enqueueDma (headM depH) (.here depM) (.dma cc0_scoped1.sem) h₄ h₅ h₆) >>= fun _ =>
            Prog.lift (.waitDma2 cc0_scoped1.sem (headM depH) depM g₃ g₄) >>= fun _ =>
            Prog.lift (.enqueueDma (ownM e.L) (.here rowM) (.dma cc0_scoped2.sem) h₇ h₈ h₉) >>= fun _ =>
            Prog.lift (.waitDma2 cc0_scoped2.sem (ownM e.L) rowM g₅ g₆) >>= k)
          fun _ => e.Q := by
  unfold Seg tables rest at h
  unfold fresh rest
  rw [hkeep] at *
  unfold fetch at *
  iintro ⟨⟨⟨Hc, Hr, Hd⟩, HA, HB⟩, #Hmw, HO, Hia, Hib, Htd, Hdn, ⟨⟨Ac, Ar, Ad⟩, S0, S1, S2⟩, HX⟩
  iapply (wp_fetch (e := e) (src := headM colH) (dst := colM) (fs := col) (g := flat 4096 e.col) (by decide)
    (fun f => by rw [read_head_col, ← hcol]; exact View.write_whole_univ _ _ _)) $$ [Ac Hc S0 HO]
  · isplitl [Ac]; · iexact Ac
    isplitl [Hc]; · iexact Hc
    isplitl [S0]; · iexact S0
    isplitr; · iexact Hmw
    iexact HO
  iintro ⟨Ac, Hc, S0, HO⟩
  iapply (wp_fetch (e := e) (src := headM depH) (dst := depM) (fs := dep) (g := flat 4096 e.dep) (by decide)
    (fun f => by rw [read_head_dep, ← hdep]; exact View.write_whole_univ _ _ _)) $$ [Ad Hd S1 HO]
  · isplitl [Ad]; · iexact Ad
    isplitl [Hd]; · iexact Hd
    isplitl [S1]; · iexact S1
    isplitr; · iexact Hmw
    iexact HO
  iintro ⟨Ad, Hd, S1, HO⟩
  iapply (wp_fetch (e := e) (src := ownM e.L) (dst := rowM) (fs := row) (g := flat 128 e.row) (by decide)
    (fun f => by rw [read_own, ← hrow]; exact View.write_whole_univ _ _ _)) $$ [Ar Hr S2 HO]
  · isplitl [Ar]; · iexact Ar
    isplitl [Hr]; · iexact Hr
    isplitl [S2]; · iexact S2
    isplitr; · iexact Hmw
    iexact HO
  iintro ⟨Ar, Hr, S2, HO⟩
  iapply h
  isplitl [Hc Hr Hd]
  · isplitl [Hc]; · iexact Hc
    isplitl [Hr]; · iexact Hr
    iexact Hd
  isplitl [HA]; · iapply (slabRes_fill false); unfold slabPts; iexact HA
  isplitl [HB]; · iapply (slabRes_fill true); unfold slabPts; iexact HB
  isplitr; · iexact Hmw
  isplitl [HO]; · iexact HO
  isplitl [Hia]; · iexact Hia
  isplitl [Hib]; · iexact Hib
  isplitl [Htd]; · iexact Htd
  isplitl [Hdn]; · iexact Hdn
  isplitl [Ac Ar Ad S0 S1 S2]
  · isplitl [Ac Ar Ad]
    · isplitl [Ac]; · iexact Ac
      isplitl [Ar]; · iexact Ar
      iexact Ad
    isplitl [S0]; · iexact S0
    isplitl [S1]; · iexact S1
    iexact S2
  iexact HX

/-- The first part of the program: the fetches, and the tile's row taken into registers. -/
theorem part47 {q : PosShare TreeShare} {col row dep : S6400.Idx → F .f32} {X : sProp (MM F)}
    (hcol : e.col = unflat col) (hrow : e.row = fun n => unflat row (256 * (e.L 1).val + 128 * (e.L 0).val + n))
    (hdep : e.dep = unflat dep) (hkeep : J.keep = iprop(fetch e q col row dep ∗ X)) (k : _ → TileProg e)
    (h : ∀ v₁, Seg e (rest J .idle .idle 0 0) (.fill 0) (.fill 0) (k ⟨v₁, reg e.row 0, reg e.row 16, reg e.row 32, reg e.row 48,
      reg e.row 64, reg e.row 80, reg e.row 96, reg e.row 112⟩)) :
    iprop(fresh e ∗ rest J .idle .idle 0 0)
      ⊢ wp frame (wpE (defs₀ (F := F)) 𝒱₀ (thr e.d e.L) none) Set.univ
          (k0_part47 e.L colH (Memref.isWhole_whole _) rowH (Memref.isWhole_whole _) depH (Memref.isWhole_whole _) outH (Memref.isWhole_whole _)
            colM (Memref.isWhole_whole _) rowM (Memref.isWhole_whole _) depM (Memref.isWhole_whole _) slabA (Memref.isWhole_whole _)
            slabB (Memref.isWhole_whole _) cc0_scratch5 cc0_scratch6 cc0_scoped0 cc0_scoped1 cc0_scoped2 >>= k) fun _ => e.Q := by
  simp only [k0_part47, Prog.bind_assoc, pure_bind]
  with_reducible refine wp_fetches hcol hrow hdep hkeep ?_
  iterate 8
    (with_reducible refine Seg.load_row ?_)
  (with_reducible refine Seg.dead_slabA ?_ ?_) <;> [trivial; intro v]
  exact h _

end Cert.Proof.Embed
end
-- ==== Proof.Fill.lean ====
/-
  The tile lays down the row and depth blocks of both slabs, as the first part of its program.
-/
module

public import proofs.«01_k».proof.Proof.Flow

@[expose] public section

noncomputable section

namespace Cert.Proof.Embed

open Cert.KernelIdeal Cert.KernelIdeal.Gen
open Idealize.ShloMosaic
open Idealize.SL Idealize.SL.RA Idealize.SL.BI Idealize.SL.Sem
open scoped Idealize.SL.BI
open Idealize.SL.BI.BIBase

variable {F : FTy → Type} [FloatOps F] {e : Env F}
variable {R : sProp (MM F)}

set_option maxHeartbeats 4000000 in
/-- The row and depth blocks of the first slab, and the first of the second. -/
theorem part203 {P : sProp (MM F)} {k : _ → TileProg e}
    (hstart : ∀ k' : _ → TileProg e, (∀ v₁, Seg e R (.fill 0) (.fill 0) (k' ⟨v₁, reg e.row 0, reg e.row 16, reg e.row 32, reg e.row 48, reg e.row 64, reg e.row 80, reg e.row 96, reg e.row 112⟩)) →
      P ⊢ wp frame (wpE (defs₀ (F := F)) 𝒱₀ (thr e.d e.L) none) Set.univ (k0_part47 e.L colH (Memref.isWhole_whole _) rowH (Memref.isWhole_whole _) depH (Memref.isWhole_whole _) outH (Memref.isWhole_whole _)
      colM (Memref.isWhole_whole _) rowM (Memref.isWhole_whole _) depM (Memref.isWhole_whole _) slabA (Memref.isWhole_whole _)
      slabB (Memref.isWhole_whole _) cc0_scratch5 cc0_scratch6 cc0_scoped0 cc0_scoped1 cc0_scoped2 >>= k') fun _ => e.Q)
    (h : ∀ v₁, Seg e R (.fill (fillNo 12272 + 1)) (.fill (fillNo 1280 + 1)) (k ⟨v₁, reg e.row 0, reg e.row 16, reg e.row 32, reg e.row 48, reg e.row 64, reg e.row 80, reg e.row 96, reg e.row 112, lane e.dep 256⟩)) :
    P ⊢ wp frame (wpE (defs₀ (F := F)) 𝒱₀ (thr e.d e.L) none) Set.univ (k0_part203 e.L colH (Memref.isWhole_whole _) rowH (Memref.isWhole_whole _) depH (Memref.isWhole_whole _) outH (Memref.isWhole_whole _)
      colM (Memref.isWhole_whole _) rowM (Memref.isWhole_whole _) depM (Memref.isWhole_whole _) slabA (Memref.isWhole_whole _)
      slabB (Memref.isWhole_whole _) cc0_scratch5 cc0_scratch6 cc0_scoped0 cc0_scoped1 cc0_scoped2 >>= k) fun _ => e.Q := by
  simp only [k0_part203, Prog.bind_assoc, pure_bind]
  with_reducible refine hstart _ ?_
  intro v₁
  try simp only [Prog.bind_assoc, pure_bind]
  iterate 59
    apply Seg.cut
    case h₁ =>
      intro v₀ k' hk
      simp only [k0_part48, k0_part49, k0_part50, k0_part51, k0_part52, k0_part53, k0_part54, k0_part55, k0_part56, k0_part57,
        k0_part58, k0_part59, k0_part60, k0_part61, k0_part62, k0_part63, k0_part64, k0_part65, k0_part66,
        k0_part67, k0_part68, k0_part69, k0_part70, k0_part71, k0_part72, k0_part73, k0_part74, k0_part75,
        k0_part76, k0_part77, k0_part78, k0_part79, k0_part80, k0_part81, k0_part82, k0_part83, k0_part84,
        k0_part85, k0_part86, k0_part87, k0_part88, k0_part89, k0_part90, k0_part91, k0_part92, k0_part93,
        k0_part94, k0_part95, k0_part96, k0_part97, k0_part98, k0_part99, k0_part100, k0_part101, k0_part102,
        k0_part103, k0_part104, k0_part105, k0_part106, Prog.bind_assoc, pure_bind]
      repeat first
        | with_reducible exact hk v₀
        | (with_reducible refine Seg.row_slabA ?_ ?_ ?_ ?_ ?_) <;> [rfl; rfl; rfl; rfl; skip]
        | (with_reducible refine Seg.row_slabB ?_ ?_ ?_ ?_ ?_) <;> [rfl; rfl; rfl; rfl; skip]
        | with_reducible refine Seg.load_dep ?_
        | ((with_reducible refine Seg.dead_slabA ?_ ?_) <;> [trivial; skip]); intro v; (try with_reducible exact hk v)
        | ((with_reducible refine Seg.dead_slabB ?_ ?_) <;> [trivial; skip]); intro v; (try with_reducible exact hk v)
        | (with_reducible refine Seg.dep_slabA ?_ ?_ ?_ ?_ ?_) <;> [rfl; rfl; rfl; rfl; skip]
        | (with_reducible refine Seg.dep_slabB ?_ ?_ ?_ ?_ ?_) <;> [rfl; rfl; rfl; rfl; skip]
    intro v
    try dsimp only
    try simp only [Prog.bind_assoc, pure_bind]
  exact h v₁

set_option maxHeartbeats 4000000 in
/-- The rest of the second slab's, then the first of the column blocks of width 0. -/
theorem part204 {k : _ → TileProg e}
    (h : Seg e R (.patch 0 (patchNo 3504 + 1)) (.fill (fillNo 12272 + 1)) (k ⟨reg e.col 0, reg e.col 16, reg e.col 32, reg e.col 48, reg e.col 64, reg e.col 80, reg e.col 96, reg e.col 112⟩)) :
    Seg e R (.patch 0 0) (.fill (fillNo 1280 + 1)) (k0_part204 e.L colH (Memref.isWhole_whole _) rowH (Memref.isWhole_whole _) depH (Memref.isWhole_whole _) outH (Memref.isWhole_whole _)
      colM (Memref.isWhole_whole _) rowM (Memref.isWhole_whole _) depM (Memref.isWhole_whole _) slabA (Memref.isWhole_whole _)
      slabB (Memref.isWhole_whole _) cc0_scratch5 cc0_scratch6 cc0_scoped0 cc0_scoped1 cc0_scoped2
      (reg e.row 0) (reg e.row 16) (reg e.row 32) (reg e.row 48) (reg e.row 64) (reg e.row 80) (reg e.row 96) (reg e.row 112) (lane e.dep 256) >>= k) := by
  simp only [k0_part204, Prog.bind_assoc, pure_bind]
  iterate 60
    apply Seg.cut
    case h₁ =>
      intro v₀ k' hk
      simp only [k0_part107, k0_part108, k0_part109, k0_part110, k0_part111, k0_part112, k0_part113, k0_part114, k0_part115,
        k0_part116, k0_part117, k0_part118, k0_part119, k0_part120, k0_part121, k0_part122, k0_part123,
        k0_part124, k0_part125, k0_part126, k0_part127, k0_part128, k0_part129, k0_part130, k0_part131,
        k0_part132, k0_part133, k0_part134, k0_part135, k0_part136, k0_part137, k0_part138, k0_part139,
        k0_part140, k0_part141, k0_part142, k0_part143, k0_part144, k0_part145, k0_part146, k0_part147,
        k0_part148, k0_part149, k0_part150, k0_part151, k0_part152, k0_part153, k0_part154, k0_part155,
        k0_part156, k0_part157, k0_part158, k0_part159, k0_part160, k0_part161, k0_part162, k0_part163,
        k0_part164, k0_part165, k0_part166, Prog.bind_assoc, pure_bind]
      repeat first
        | with_reducible exact hk v₀
        | (with_reducible refine Seg.row_slabB ?_ ?_ ?_ ?_ ?_) <;> [rfl; rfl; rfl; rfl; skip]
        | with_reducible refine Seg.load_dep ?_
        | ((with_reducible refine Seg.dead_slabB ?_ ?_) <;> [trivial; skip]); intro v; (try with_reducible exact hk v)
        | (with_reducible refine Seg.dep_slabB ?_ ?_ ?_ ?_ ?_) <;> [rfl; rfl; rfl; rfl; skip]
        | with_reducible refine Seg.load_col_at ?_
        | ((with_reducible refine Seg.dead_slabA ?_ ?_) <;> [trivial; skip]); intro v; (try with_reducible exact hk v)
        | (with_reducible refine Seg.col_slabA ?_ ?_ ?_ ?_ ?_) <;> [rfl; rfl; rfl; rfl; skip]
    intro v
    try dsimp only
    try simp only [Prog.bind_assoc, pure_bind]
  exact h

end Cert.Proof.Embed
end
-- ==== Proof.Loop.lean ====
/-
  The rules the loop of the tile's program needs: where its copies and loads lie at every trip, and the loop itself.
-/
module

public import proofs.«01_k».proof.Proof.Flow

@[expose] public section

noncomputable section

namespace Cert.Proof.Embed

open Cert.KernelIdeal Cert.KernelIdeal.Gen
open Idealize.ShloMosaic
open Idealize.SL Idealize.SL.RA Idealize.SL.BI Idealize.SL.Sem
open scoped Idealize.SL.BI
open Idealize.SL.BI.BIBase

variable {F : FTy → Type} [FloatOps F] {e : Env F}
variable {R : sProp (MM F)} {s₀ s₁ : State}

/-! ## Where the copies and loads lie -/

theorem off2 (L : grid0.Coords) (r w : Fin 2) :
    k0_off2 L (BitVec.ofNat 32 (32 * r.val)) (BitVec.ofNat 32 w.val) = ![pieceOff L r.val w.val] := k0_off2_eq L r w

theorem off4 (L : grid0.Coords) (t : Fin k0_t1_loop.trips) (r : Fin 2) :
    k0_off4 L t (BitVec.ofNat 32 (32 * r.val)) = ![pieceOff L r.val (2 * t.val + 2)] := by
  rw [k0_off4_eq, pieceOff]
  exact congrArg (fun n : ℕ => ![n]) (by omega)

theorem off6 (L : grid0.Coords) (t : Fin k0_t1_loop.trips) (r : Fin 2) :
    k0_off6 L t (BitVec.ofNat 32 (32 * r.val)) = ![pieceOff L r.val (2 * t.val + 2 + 1)] := by
  rw [k0_off6_eq, pieceOff]
  exact congrArg (fun n : ℕ => ![n]) (by omega)

theorem off3 (t : Fin k0_t1_loop.trips) (b : BitVec 32) (hb : b.toNat % 16 = 0 ∧ b.toNat < 128) :
    k0_off3 t b = ![(2 * t.val + 2) * 128 + b.toNat] := by
  have h := k0_off3_eq t ⟨b.toNat / 16, by omega⟩
  rw [show BitVec.ofNat 32 (16 * (b.toNat / 16)) = b by rw [show 16 * (b.toNat / 16) = b.toNat by omega, BitVec.ofNat_toNat, BitVec.setWidth_eq]] at h
  rw [h]
  exact congrArg (fun n : ℕ => ![n]) (by show 256 * t.val + 16 * (b.toNat / 16) + 256 = _; omega)

theorem off5 (t : Fin k0_t1_loop.trips) (b : BitVec 32) (hb : b.toNat % 16 = 0 ∧ b.toNat < 128) :
    k0_off5 t b = ![(2 * t.val + 2 + 1) * 128 + b.toNat] := by
  have h := k0_off5_eq t ⟨b.toNat / 16, by omega⟩
  rw [show BitVec.ofNat 32 (16 * (b.toNat / 16)) = b by rw [show 16 * (b.toNat / 16) = b.toNat by omega, BitVec.ofNat_toNat, BitVec.setWidth_eq]] at h
  rw [h]
  exact congrArg (fun n : ℕ => ![n]) (by show 256 * t.val + 16 * (b.toNat / 16) + 384 = _; omega)

theorem trips_eq : k0_t1_loop.trips = 15 := by decide

/-- Sixteen numbers of the column table for the even width of trip `t`. -/
theorem Seg.load_even {t : Fin k0_t1_loop.trips} {b : BitVec 32} {inb : ∀ a, k0_off3 t b a + S16.size a ≤ S4096.size a}
    {hl : colM.view.LoadsAt (Rect.unit (s := S4096) (k0_off3 t b) S16.size inb).toLoadRect} {k : (S16.Idx → F .f32) → TileProg e}
    (hb : b.toNat % 16 = 0 ∧ b.toNat < 128) (h : Seg e R s₀ s₁ (k (lane e.col ((2 * t.val + 2) * 128 + b.toNat)))) :
    Seg e R s₀ s₁ (Prog.lift (.load colM (Rect.unit (s := S4096) (k0_off3 t b) S16.size inb).toLoadRect hl) >>= k) :=
  Seg.load_col _ (off3 t b hb) h

/-- The same for its odd width. -/
theorem Seg.load_odd {t : Fin k0_t1_loop.trips} {b : BitVec 32} {inb : ∀ a, k0_off5 t b a + S16.size a ≤ S4096.size a}
    {hl : colM.view.LoadsAt (Rect.unit (s := S4096) (k0_off5 t b) S16.size inb).toLoadRect} {k : (S16.Idx → F .f32) → TileProg e}
    (hb : b.toNat % 16 = 0 ∧ b.toNat < 128) (h : Seg e R s₀ s₁ (k (lane e.col ((2 * t.val + 2 + 1) * 128 + b.toNat)))) :
    Seg e R s₀ s₁ (Prog.lift (.load colM (Rect.unit (s := S4096) (k0_off5 t b) S16.size inb).toLoadRect hl) >>= k) :=
  Seg.load_col _ (off5 t b hb) h

/-! ## The loop -/

theorem Seg.trips {n : ℕ} {body : Fin n → PUnit → TileProg e} {k : PUnit → TileProg e} (I : ℕ → sProp (MM F))
    (hbody : ∀ (t : Fin n) (k' : PUnit → TileProg e), Seg e (I (t.val + 1)) s₀ s₁ (k' ⟨⟩) → Seg e (I t.val) s₀ s₁ (body t ⟨⟩ >>= k'))
    (h : Seg e (I n) s₀ s₁ (k ⟨⟩)) (m : ℕ) : ∀ j, j + m = n →
      Seg e (I j) s₀ s₁ (Scf.forFrom body ((List.finRange n).drop j) ⟨⟩ >>= k) := by
  induction m with
  | zero =>
    intro j hj
    have : j = n := by omega
    subst this
    rw [List.drop_eq_nil_of_le (by rw [List.length_finRange])]
    exact h
  | succ m ih =>
    intro j hj
    rw [List.drop_eq_getElem_cons (by rw [List.length_finRange]; omega), List.getElem_finRange, Scf.forFrom_cons, Prog.bind_assoc]
    exact hbody ⟨j, by omega⟩ _ (ih (j + 1) (by omega))

/-- A loop, by what is held before each of its trips. -/
theorem Seg.loop {l : Scf.Loop 32} {hok : l.OK} {body : Fin l.trips → PUnit → TileProg e} {k : PUnit → TileProg e} (I : ℕ → sProp (MM F))
    (hbody : ∀ (t : Fin l.trips) (k' : PUnit → TileProg e), Seg e (I (t.val + 1)) s₀ s₁ (k' ⟨⟩) → Seg e (I t.val) s₀ s₁ (body t ⟨⟩ >>= k'))
    (h : Seg e (I l.trips) s₀ s₁ (k ⟨⟩)) : Seg e (I 0) s₀ s₁ (Scf.Loop.for l hok ⟨⟩ body >>= k) := by
  rw [Scf.Loop.for, Scf.for_eq]
  exact Seg.trips I hbody h l.trips 0 (by omega)

end Cert.Proof.Embed
end
-- ==== Proof.Trip.lean ====
/-
  One trip of the loop: each slab in turn is back, is given the columns of its next width and goes away again.
-/
module

public import proofs.«01_k».proof.Proof.Loop

@[expose] public section

noncomputable section

namespace Cert.Proof.Embed

open Cert.KernelIdeal Cert.KernelIdeal.Gen
open Idealize.ShloMosaic
open Idealize.SL Idealize.SL.RA Idealize.SL.BI Idealize.SL.Sem
open scoped Idealize.SL.BI
open Idealize.SL.BI.BIBase

variable {F : FTy → Type} [FloatOps F] {e : Env F}
variable {J : Job e}

set_option maxHeartbeats 4000000 in
/-- A trip up to the last store into the second slab. -/
theorem part46 {t : Fin k0_t1_loop.trips} {v₁ c₀ c₁ : BitVec 32} {k : _ → TileProg e}
    (h : ∀ b, Seg e (rest J (.both (2 * t.val + 2)) .idle (2 * t.val + 2 + 1) (2 * t.val + 1 + 1)) .away
      (.patch (2 * t.val + 2 + 1) (patchNo 10208 + 1)) (k ⟨b, reg e.col ((2 * t.val + 2 + 1) * 128 + (112#32).toNat)⟩)) :
    Seg e (rest J (.both (2 * t.val)) (.both (2 * t.val + 1)) (2 * t.val + 2) (2 * t.val)) .away .away
      (k0_part46 e.L colH (Memref.isWhole_whole _) rowH (Memref.isWhole_whole _) depH (Memref.isWhole_whole _) outH (Memref.isWhole_whole _)
      colM (Memref.isWhole_whole _) rowM (Memref.isWhole_whole _) depM (Memref.isWhole_whole _) slabA (Memref.isWhole_whole _)
      slabB (Memref.isWhole_whole _) cc0_scratch5 cc0_scratch6 cc0_scoped0 cc0_scoped1 cc0_scoped2
        v₁ c₀ c₁ t >>= k) := by
  have ht : t.val < 15 := trips_eq ▸ t.isLt
  simp only [k0_part46, Prog.bind_assoc, pure_bind]
  iterate 45
    apply Seg.cut
    case h₁ =>
      intro v₀ k' hk
      simp only [k0_part1, k0_part2, k0_part3, k0_part4, k0_part5, k0_part6, k0_part7, k0_part8, k0_part9, k0_part10,
        k0_part11, k0_part12, k0_part13, k0_part14, k0_part15, k0_part16, k0_part17, k0_part18, k0_part19,
        k0_part20, k0_part21, k0_part22, k0_part23, k0_part24, k0_part25, k0_part26, k0_part27, k0_part28,
        k0_part29, k0_part30, k0_part31, k0_part32, k0_part33, k0_part34, k0_part35, k0_part36, k0_part37,
        k0_part38, k0_part39, k0_part40, k0_part41, k0_part42, k0_part43, k0_part44, k0_part45, Prog.bind_assoc, pure_bind]
      repeat first
        | with_reducible exact hk v₀
        | (with_reducible refine Seg.load_even ?_ ?_) <;> [decide; skip]
        | (with_reducible refine Seg.load_odd ?_ ?_) <;> [decide; skip]
        | ((with_reducible refine Seg.dead_slabA ?_ ?_) <;> [trivial; skip]); intro v; (try with_reducible exact hk v)
        | (with_reducible refine Seg.col_slabA ?_ ?_ ?_ ?_ ?_) <;> [rfl; rfl; rfl; rfl; skip]
        | ((with_reducible refine Seg.dead_slabB ?_ ?_) <;> [trivial; skip]); intro v; (try with_reducible exact hk v)
        | (with_reducible refine Seg.col_slabB ?_ ?_ ?_ ?_ ?_) <;> [rfl; rfl; rfl; rfl; skip]
        | with_reducible refine Seg.waitA₀ ?_
        | with_reducible refine Seg.waitA₁ (2 * t.val + 2) ?_
        | with_reducible refine Seg.waitB₀ ?_
        | with_reducible refine Seg.waitB₁ (2 * t.val + 2 + 1) ?_
        | (with_reducible refine Seg.fireA₀ ?_ ?_ ?_ ?_) <;> [omega; exact off4 e.L t 0; rfl; skip]
        | (with_reducible refine Seg.fireA₁ ?_ ?_ ?_) <;> [omega; exact off4 e.L t 1; skip]
    intro v
    try dsimp only
    try simp only [Prog.bind_assoc, pure_bind]
  repeat first
    | (with_reducible refine Seg.col_slabB ?_ ?_ ?_ ?_ ?_) <;> [rfl; rfl; rfl; rfl; skip]
    | (with_reducible refine Seg.dead_slabB ?_ ?_) <;> [trivial; intro v]
  exact h _

end Cert.Proof.Embed
end
-- ==== Proof.Widths.lean ====
/-
  The rest of the tile's program: the first two widths, the loop over the others, and the waits at its end.
-/
module

public import proofs.«01_k».proof.Proof.Trip

@[expose] public section

noncomputable section

namespace Cert.Proof.Embed

open Cert.KernelIdeal Cert.KernelIdeal.Gen
open Idealize.ShloMosaic
open Idealize.SL Idealize.SL.RA Idealize.SL.BI Idealize.SL.Sem
open scoped Idealize.SL.BI
open Idealize.SL.BI.BIBase

variable {F : FTy → Type} [FloatOps F] {e : Env F}
variable {J : Job e}

set_option maxHeartbeats 4000000 in
/-- From the first slab's column blocks of width 0 to the first slab's last return. -/
theorem part205 {v₁ : BitVec 32} {k : PUnit → TileProg e}
    (h : Seg e (rest J .idle (.both 31) 32 31) (.patch 0 0) .away (k ⟨⟩)) :
    Seg e (rest J .idle .idle 0 0) (.patch 0 (patchNo 3504 + 1)) (.patch (0 + 1) 0) (k0_part205 e.L colH (Memref.isWhole_whole _) rowH (Memref.isWhole_whole _) depH (Memref.isWhole_whole _) outH (Memref.isWhole_whole _)
      colM (Memref.isWhole_whole _) rowM (Memref.isWhole_whole _) depM (Memref.isWhole_whole _) slabA (Memref.isWhole_whole _)
      slabB (Memref.isWhole_whole _) cc0_scratch5 cc0_scratch6 cc0_scoped0 cc0_scoped1 cc0_scoped2
      v₁ (reg e.col 0) (reg e.col 16) (reg e.col 32) (reg e.col 48) (reg e.col 64) (reg e.col 80) (reg e.col 96) (reg e.col 112) >>= k) := by
  simp only [k0_part205, Prog.bind_assoc, pure_bind]
  iterate 36
    apply Seg.cut
    case h₁ =>
      intro v₀ k' hk
      simp only [k0_part167, k0_part168, k0_part169, k0_part170, k0_part171, k0_part172, k0_part173, k0_part174, k0_part175,
        k0_part176, k0_part177, k0_part178, k0_part179, k0_part180, k0_part181, k0_part182, k0_part183,
        k0_part184, k0_part185, k0_part186, k0_part187, k0_part188, k0_part189, k0_part190, k0_part191,
        k0_part192, k0_part193, k0_part194, k0_part195, k0_part196, k0_part197, k0_part198, k0_part199,
        k0_part200, k0_part201, k0_part202, Prog.bind_assoc, pure_bind]
      repeat first
        | with_reducible exact hk v₀
        | with_reducible refine Seg.load_col_at ?_
        | ((with_reducible refine Seg.dead_slabA ?_ ?_) <;> [trivial; skip]); intro v; (try with_reducible exact hk v)
        | (with_reducible refine Seg.col_slabA ?_ ?_ ?_ ?_ ?_) <;> [rfl; rfl; rfl; rfl; skip]
        | ((with_reducible refine Seg.dead_slabB ?_ ?_) <;> [trivial; skip]); intro v; (try with_reducible exact hk v)
        | (with_reducible refine Seg.col_slabB ?_ ?_ ?_ ?_ ?_) <;> [rfl; rfl; rfl; rfl; skip]
        | (with_reducible refine Seg.fireA₀ ?_ ?_ ?_ ?_) <;> [decide; exact off2 e.L 0 0; rfl; skip]
        | (with_reducible refine Seg.fireA₁ ?_ ?_ ?_) <;> [decide; exact off2 e.L 1 0; skip]
        | (with_reducible refine Seg.fireB₀ ?_ ?_ ?_ ?_) <;> [decide; exact off2 e.L 0 1; rfl; skip]
        | (with_reducible refine Seg.fireB₁ ?_ ?_ ?_) <;> [decide; exact off2 e.L 1 1; skip]
    intro v
    try dsimp only
    try simp only [Prog.bind_assoc, pure_bind]
  with_reducible refine Seg.fireB₁ ?_ ?_ ?_
  · decide
  · exact off2 e.L 1 1
  refine Seg.loop (fun n => rest J (.both (2 * n)) (.both (2 * n + 1)) (2 * n + 2) (2 * n)) ?_ ?_
  · intro t k' hk
    have ht : t.val < 15 := trips_eq ▸ t.isLt
    simp only [Prog.bind_assoc, pure_bind]
    refine part46 fun b => ?_
    try simp only [Prog.bind_assoc, pure_bind]
    (with_reducible refine Seg.col_slabB ?_ ?_ ?_ ?_ ?_) <;> [rfl; rfl; rfl; rfl; skip]
    (with_reducible refine Seg.fireB₀ ?_ ?_ ?_ ?_) <;> [omega; exact off6 e.L t 0; rfl; skip]
    (with_reducible refine Seg.fireB₁ ?_ ?_ ?_) <;> [omega; exact off6 e.L t 1; skip]
    exact hk
  rw [trips_eq]
  with_reducible refine Seg.waitA₀ ?_
  with_reducible refine Seg.waitA₁ 0 ?_
  exact h

end Cert.Proof.Embed
end
-- ==== Proof.Tile.lean ====
/-
  A tile's whole program, from what the launch deals the tile to what it hands back.
-/
module

public import proofs.«01_k».proof.Proof.Begin
public import proofs.«01_k».proof.Proof.Fill
public import proofs.«01_k».proof.Proof.Widths

@[expose] public section

noncomputable section

namespace Cert.Proof.Embed

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The program -/

section Run

variable {e : Env F} {J : Job e}

/-- The program of a tile runs from its fresh buffers and the pieces as found to all 64 pieces written. -/
theorem tile_run {q : PosShare TreeShare} {col row dep : S6400.Idx → F .f32} {X : sProp (MM F)}
    (hcol : e.col = unflat col) (hrow : e.row = fun n => unflat row (256 * (e.L 1).val + 128 * (e.L 0).val + n))
    (hdep : e.dep = unflat dep) (hkeep : J.keep = iprop(fetch e q col row dep ∗ X))
    (hend : iprop(tables e ∗ slabRes e false (.patch 0 0) ∗ slabRes e true (.patch 0 0) ∗ rest J .idle .idle 32 32) ⊢ e.Q) :
    iprop(fresh e ∗ rest J .idle .idle 0 0)
      ⊢ wp frame (wpE (defs₀ (F := F)) 𝒱₀ (thr e.d e.L) none) Set.univ
          (cc0__pos_embed_body e.L colH (Memref.isWhole_whole _) rowH (Memref.isWhole_whole _) depH (Memref.isWhole_whole _) outH (Memref.isWhole_whole _)
            colM (Memref.isWhole_whole _) rowM (Memref.isWhole_whole _) depM (Memref.isWhole_whole _) slabA (Memref.isWhole_whole _)
            slabB (Memref.isWhole_whole _) cc0_scratch5 cc0_scratch6 cc0_scoped0 cc0_scoped1 cc0_scoped2) fun _ => e.Q := by
  simp only [cc0__pos_embed_body, Prog.bind_assoc, pure_bind]
  with_reducible refine part203 (R := rest J .idle .idle 0 0) (part47 hcol hrow hdep hkeep) ?_
  intro v₁
  dsimp only
  refine Seg.filledA 0 rfl ?_
  with_reducible refine part204 ?_
  dsimp only
  refine Seg.filledB (0 + 1) rfl ?_
  with_reducible refine part205 ?_
  with_reducible refine Seg.waitB₀ ?_
  with_reducible refine Seg.waitB₁ 0 ?_
  exact Seg.ret hend

end Run

/-! ## What the launch deals a tile -/

/-- The arrays' places as the TensorCore names them: the three tables, and the result. -/
abbrev colLoc (d : Dev nD) : Loc nD τ sig := (SparseCore.T d).loc main_v0
abbrev rowLoc (d : Dev nD) : Loc nD τ sig := (SparseCore.T d).loc main_v1
abbrev depLoc (d : Dev nD) : Loc nD τ sig := (SparseCore.T d).loc main_v2
abbrev outLoc (d : Dev nD) : Loc nD τ sig := (SparseCore.T d).loc main_v3

/-- A share of the three tables. -/
def readers (d : Dev nD) (q : PosShare TreeShare) (col row dep : S6400.Idx → F .f32) : sProp (MM F) :=
  iprop((colLoc d ↦{q} col) ∗ (rowLoc d ↦{q} row) ∗ (depLoc d ↦{q} dep))

/-- A tile's pieces of the result. -/
def pieces (d : Dev nD) (L : grid0.Coords) (f : S25165824.Idx → F .f32) : sProp (MM F) :=
  bigSep (Finset.range 32) fun w => iprop((outLoc d ↦[pieceSet L 0 w]{fullShare} f) ∗ (outLoc d ↦[pieceSet L 1 w]{fullShare} f))

/-- The result, from the three tables. -/
def filled (col row dep : S6400.Idx → F .f32) : S25165824.Idx → F .f32 := fun x =>
  target (unflat col) (fun n => unflat row ((x 0).val / 12288 / 32 % 32 * 128 + n)) (unflat dep) ((x 0).val / 12288 % 32)
    ((x 0).val % 12288)

omit [FloatOps F] in
theorem filled_piece (L : grid0.Coords) (col row dep : S6400.Idx → F .f32) (r w : ℕ) (hr : r < 2) (hw : w < 32) (x : S25165824.Idx)
    (hx : x ∈ pieceSet L r w) :
    filled col row dep x = target (unflat col) (fun n => unflat row (256 * (L 1).val + 128 * (L 0).val + n)) (unflat dep) w
      ((x 0).val - pieceOff L r w) := by
  have h0 : (L 0).val < 2 := (L 0).isLt
  have h1 : (L 1).val < 16 := (L 1).isLt
  obtain ⟨ha, hb⟩ := mem_pieceSet.mp hx
  unfold filled pieceOff at *
  have hq : (x 0).val / 12288 = 1024 * r + 64 * (L 1).val + 32 * (L 0).val + w := by omega
  rw [hq, show (1024 * r + 64 * (L 1).val + 32 * (L 0).val + w) % 32 = w by omega,
    show (1024 * r + 64 * (L 1).val + 32 * (L 0).val + w) / 32 % 32 * 128 = 256 * (L 1).val + 128 * (L 0).val by omega,
    show (x 0).val - (12582912 * r + 786432 * (L 1).val + 393216 * (L 0).val + 12288 * w) = (x 0).val % 12288 by omega]

variable (d : Dev nD) (L : grid0.Coords)

/-- The buffers a tile's program names. -/
abbrev myRefs : Finset (Ref sig .scVector) := {cc0_scratch0, cc0_scratch1, cc0_scratch2, cc0_scratch3, cc0_scratch4}
/-- The semaphores it names. -/
abbrev mySems : Finset (SemLoc sig) :=
  {.dma cc0_scratch5.sem, .dma cc0_scratch6.sem, .dma cc0_scoped0.sem, .dma cc0_scoped1.sem, .dma cc0_scoped2.sem}

/-- Those semaphores, as the machine names them. -/
abbrev semEmb : SemLoc sig ↪ GSem nD τ sig := ⟨fun s => (thr d L, s), fun _ _ h => congrArg Prod.snd h⟩
/-- Those buffers, as the device names them. -/
abbrev refEmb : Ref sig .scVector ↪ DevRef τ sig := ⟨Proc.devRef (Proc.scVector (cV L) (jV L)), Proc.devRef_injective _⟩

/-- The tile's other semaphores. -/
def otherSems : sProp (MM F) := bigSep (ownCells (thr d L) \ mySems.map (semEmb d L)) fun g => semVal g 0
/-- The tile's other buffers. -/
def otherBufs : sProp (MM F) :=
  bigSep (ownRefs (thr d L).2 \ myRefs.map (refEmb L)) fun b => iprop(∃ f, (((thr d L).1, b) : Loc nD τ sig) ↦{fullShare} f)

omit [FloatOps F] in
theorem ownSems0_tile :
    (ownSems0 (thr d L) : sProp (MM F))
      = iprop((semVal (thr d L, .dma cc0_scratch5.sem) 0 ∗ semVal (thr d L, .dma cc0_scratch6.sem) 0
          ∗ semVal (thr d L, .dma cc0_scoped0.sem) 0 ∗ semVal (thr d L, .dma cc0_scoped1.sem) 0 ∗ semVal (thr d L, .dma cc0_scoped2.sem) 0)
        ∗ otherSems d L) := by
  unfold SparseCore.Cfg.ownSems0 otherSems
  rw [SparseCore.bigSep_sdiff_split' (t := mySems.map (semEmb d L)), bigSep_map]
  · rw [SparseCore.bigSep_insert' (by decide), SparseCore.bigSep_insert' (by decide), SparseCore.bigSep_insert' (by decide),
      SparseCore.bigSep_insert' (by decide), bigSep_singleton]
    rfl
  · intro g hg
    obtain ⟨s, hs, rfl⟩ := Finset.mem_map.mp hg
    refine mem_ownCells.mpr ⟨rfl, ?_⟩
    show s.isScoped .scVector = true
    clear hg
    revert s
    decide

omit [FloatOps F] in
theorem ownBufs_tile :
    (ownBufs (thr d L) : sProp (MM F))
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ ∃ f, (thr d L).loc cc0_scratch4 ↦{fullShare} f)
        ∗ otherBufs d L) := by
  unfold SparseCore.Cfg.ownBufs otherBufs
  rw [SparseCore.bigSep_sdiff_split' (t := myRefs.map (refEmb L)), bigSep_map]
  · rw [SparseCore.bigSep_insert' (by decide), SparseCore.bigSep_insert' (by decide), SparseCore.bigSep_insert' (by decide),
      SparseCore.bigSep_insert' (by decide), bigSep_singleton]
    rfl
  · intro b hb
    obtain ⟨s, hs, rfl⟩ := Finset.mem_map.mp hb
    refine SparseCore.Cfg.mem_ownRefs_of_owner (p := Proc.scVector (cV L) (jV L)) ?_
    simp only [Finset.mem_insert, Finset.mem_singleton] at hs
    rcases hs with rfl | rfl | rfl | rfl | rfl <;> rfl

set_option maxHeartbeats 2000000 in
/-- The task of a tile: its shares of the tables and its pieces of the result as found; the same shares and the pieces as they
    are to be. -/
theorem tile_body (q : PosShare TreeShare) (col row dep : S6400.Idx → F .f32) (old : S25165824.Idx → F .f32)
    (O : CellTallies nD τ sig (HIx 1)) (W : Waits sig (HIx 1)) (hO : ∀ g, O g none = 0)
    (p : Prog (TpuEff nD τ sig (Elt F) Λ₀ (.scVector (cV L) (jV L))) PUnit)
    (hp : p = cc0__pos_embed_body L colH (Memref.isWhole_whole _) rowH (Memref.isWhole_whole _) depH (Memref.isWhole_whole _) outH (Memref.isWhole_whole _)
      colM (Memref.isWhole_whole _) rowM (Memref.isWhole_whole _) depM (Memref.isWhole_whole _) slabA (Memref.isWhole_whole _)
      slabB (Memref.isWhole_whole _) cc0_scratch5 cc0_scratch6 cc0_scoped0 cc0_scoped1 cc0_scoped2) :
    iprop(levAts (K (F := F)).L (K (F := F)).lev ∗ emp ∗ (readers d q col row dep ∗ pieces d L old)
        ∗ scopedBufs (thr d L) ∗ scopedSems0 (thr d L) ∗ owes (thr d L) O W)
      ⊢ wp frame (wpE (defs₀ (F := F)) 𝒱₀ (thr d L) none) Set.univ
          p
          fun _ => iprop((readers d q col row dep ∗ pieces d L (filled col row dep)) ∗ scopedBufs (thr d L) ∗ scopedSems0 (thr d L)
            ∗ ∃ W', ⌜∀ p ∈ W', p ∈ W ∨ p.2 = none ∨ p.2 = some (0 : Fin 1)⌝ ∗ owes (thr d L) O W') := by
  have key := tile_run
    (e := { d := d, L := L, col := unflat col, row := fun n => unflat row (256 * (L 1).val + 128 * (L 0).val + n), dep := unflat dep,
            Q := iprop((readers d q col row dep ∗ pieces d L (filled col row dep))
              ∗ scopedBufs (thr d L) ∗ scopedSems0 (thr d L)
              ∗ ∃ W', ⌜∀ p ∈ W', p ∈ W ∨ p.2 = none ∨ p.2 = some (0 : Fin 1)⌝ ∗ owes (thr d L) O W') })
    (J := { O := O, old := old, new := filled col row dep, new_eq := filled_piece L col row dep,
            keep := iprop(fetch { d := d, L := L, col := unflat col, row := fun n => unflat row (256 * (L 1).val + 128 * (L 0).val + n),
                                  dep := unflat dep, Q := iprop(emp) } q col row dep ∗ otherBufs d L ∗ otherSems d L) })
    (q := q) (col := col) (row := row) (dep := dep) (X := iprop(otherBufs d L ∗ otherSems d L)) rfl rfl rfl rfl ?hend
  case hend =>
    dsimp only
    rw [(K (F := F)).scopedBufs_V facts d (cV L) (jV L), SparseCore.Cfg.scopedSems0_V (Val := Elt F) d (cV L) (jV L), ownSems0_tile, ownBufs_tile]
    rw [slabRes_here (show State.here (.patch _ _) from trivial), slabRes_here (show State.here (.patch _ _) from trivial)]
    unfold tables rest fetch air done readers pieces slabPts piece
    dsimp only
    iintro ⟨⟨Hc, Hr, Hd⟩, ⟨%fa, -, HA⟩, ⟨%fb, -, HB⟩, -, ⟨%W', HO⟩, Hia, Hib, -, Hdn, ⟨⟨Ac, Ar, Ad⟩, S0, S1, S2⟩, Hob, Hos⟩
    isplitl [Ac Ar Ad Hdn]
    · isplitl [Ac Ar Ad]
      · isplitl [Ac]; · iexact Ac
        isplitl [Ar]; · iexact Ar
        iexact Ad
      iexact Hdn
    isplitl [Hc Hr Hd HA HB Hob]
    · isplitr [Hob]
      · isplitl [Hc]; · iexists _; iexact Hc
        isplitl [Hr]; · iexists _; iexact Hr
        isplitl [Hd]; · iexists _; iexact Hd
        isplitl [HA]; · iexists _; iexact HA
        iexists _; iexact HB
      iexact Hob
    isplitl [Hia Hib S0 S1 S2 Hos]
    · isplitr [Hos]
      · isplitl [Hia]; · iexact Hia
        isplitl [Hib]; · iexact Hib
        isplitl [S0]; · iexact S0
        isplitl [S1]; · iexact S1
        iexact S2
      iexact Hos
    iexists W'
    isplitr
    · ipureintro
      intro p _
      rcases p.2 with _ | c
      · exact .inr (.inl rfl)
      · exact .inr (.inr (congrArg some (Subsingleton.elim c 0)))
    iexact HO
  dsimp only at key
  rw [← hp] at key
  clear hp
  refine BIBase.Entails.trans ?_ key
  rw [(K (F := F)).scopedBufs_V facts d (cV L) (jV L), SparseCore.Cfg.scopedSems0_V (Val := Elt F) d (cV L) (jV L), ownSems0_tile, ownBufs_tile]
  unfold fresh rest fetch air done todo readers pieces piece
  rw [Finset.range_zero, bigSep_empty, ← Finset.range_eq_Ico]
  dsimp only
  iintro ⟨#Hlv, -, ⟨⟨Ac, Ar, Ad⟩, Hpc⟩, ⟨⟨Hc, Hr, Hd, HA, HB⟩, Hob⟩, ⟨⟨Hia, Hib, S0, S1, S2⟩, Hos⟩, HO⟩
  ihave Hmw := (show levAts (K (F := F)).L (K (F := F)).lev ⊢ Transfers.MayWaits (thr d L) (default : HIx 1) O from
    (K (F := F)).mayWaits_none (thr := thr d L) hO) $$ Hlv
  isplitl [Hc Hr Hd HA HB]
  · isplitl [Hc Hr Hd]
    · isplitl [Hc]; · iexact Hc
      isplitl [Hr]; · iexact Hr
      iexact Hd
    isplitl [HA]; · iexact HA
    iexact HB
  isplitl [Hmw]; · iexact Hmw
  isplitl [HO]; · iexists W; iexact HO
  isplitl [Hia]; · iexact Hia
  isplitl [Hib]; · iexact Hib
  isplitl [Hpc]; · iexact Hpc
  isplitr; · iempintro
  isplitl [Ac Ar Ad S0 S1 S2]
  · isplitl [Ac Ar Ad]
    · isplitl [Ac]; · iexact Ac
      isplitl [Ar]; · iexact Ar
      iexact Ad
    isplitl [S0]; · iexact S0
    isplitl [S1]; · iexact S1
    iexact S2
  isplitl [Hob]; · iexact Hob
  iexact Hos

end Cert.Proof.Embed
end
-- ==== Proof.Launch.lean ====
/-
  The call of the SparseCores: what each core and each tile is dealt, how the pieces of the result make the whole of it,
  and the task of a tile as the launch theorem asks for it.
-/
module

public import proofs.«01_k».proof.Proof.Tile

@[expose] public section

noncomputable section

namespace Cert.Proof.Embed

open Cert.KernelIdeal Cert.KernelIdeal.Gen
open Idealize.ShloMosaic
open Idealize.ShloMosaic.SparseCore (S V)
open Idealize.ShloMosaic.SparseCore.Cfg (HIx Pay)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The tile at core `c` and subcore `i`. -/
def coordsV (c : Fin (grid0.bound 0)) (i : Fin (grid0.bound 1)) : grid0.Coords :=
  fun | 0 => c | 1 => i | ⟨_ + 2, h⟩ => absurd h (Nat.not_lt.2 (Nat.le_add_left _ _))

/-- The same, with the core and the subcore numbered as the call numbers them. -/
def at_ (c : Fin ((K (F := F)).nCore 0)) (i : Fin ((K (F := F)).nSub 0)) : grid0.Coords := coordsV ⟨c.val, c.isLt⟩ ⟨i.val, i.isLt⟩

/-! ## The pieces make the result -/

/-- The four numbers of a piece: its core, its subcore, its width, and which of the two it is. -/
abbrev Ix : Type := (Fin ((K (F := F)).nCore 0) × Fin ((K (F := F)).nSub 0)) × (ℕ × ℕ)

omit [FloatOps F] in
theorem pieces_disjoint (a b : Ix (F := F)) (ha : a.2.1 < 32 ∧ a.2.2 < 2) (hb : b.2.1 < 32 ∧ b.2.2 < 2) (h : a ≠ b) :
    Disjoint (pieceSet (at_ a.1.1 a.1.2) a.2.2 a.2.1) (pieceSet (at_ b.1.1 b.1.2) b.2.2 b.2.1) := by
  rw [Finset.disjoint_left]
  intro x hx hy
  apply h
  obtain ⟨⟨c, i⟩, w, r⟩ := a
  obtain ⟨⟨c', i'⟩, w', r'⟩ := b
  have hx := mem_pieceSet.mp hx
  have hy := mem_pieceSet.mp hy
  have hc : c.val < 2 := c.isLt
  have hi : i.val < 16 := i.isLt
  have hc' : c'.val < 2 := c'.isLt
  have hi' : i'.val < 16 := i'.isLt
  simp only [pieceOff, at_, coordsV] at hx hy ha hb
  have e₁ : c = c' := Fin.ext (by omega)
  have e₂ : i = i' := Fin.ext (by omega)
  have e₃ : w = w' := by omega
  have e₄ : r = r' := by omega
  rw [e₁, e₂, e₃, e₄]

omit [FloatOps F] in
theorem pieces_cover :
    ((Finset.univ ×ˢ Finset.univ) ×ˢ (Finset.range 32 ×ˢ Finset.range 2) : Finset (Ix (F := F))).biUnion
      (fun a => pieceSet (at_ a.1.1 a.1.2) a.2.2 a.2.1) = Finset.univ := by
  rw [Finset.eq_univ_iff_forall]
  intro x
  have hx : (x 0).val < 25165824 := (x 0).isLt
  rw [Finset.mem_biUnion]
  refine ⟨((⟨(x 0).val / 393216 % 2, show _ < 2 by omega⟩, ⟨(x 0).val / 786432 % 16, show _ < 16 by omega⟩),
    ((x 0).val / 12288 % 32, (x 0).val / 12582912)), ?_, ?_⟩
  · simp only [Finset.mem_product, Finset.mem_univ, Finset.mem_range, true_and]
    omega
  · rw [mem_pieceSet]
    simp only [pieceOff, at_, coordsV]
    omega

omit [FloatOps F] in
/-- The result whole is the pieces of all the tiles. -/
theorem out_pieces (d : Dev nD) (f : S25165824.Idx → F .f32) :
    (outLoc d ↦{fullShare} f : sProp (MM F))
      = bigSep Finset.univ fun c : Fin ((K (F := F)).nCore 0) => bigSep Finset.univ fun i : Fin ((K (F := F)).nSub 0) => pieces d (at_ c i) f := by
  refine Eq.trans ?_ ((pointsTo_biUnion (ℓ := outLoc d) (q := fullShare) (f := f)
    ((Finset.univ ×ˢ Finset.univ) ×ˢ (Finset.range 32 ×ˢ Finset.range 2) : Finset (Ix (F := F)))
    (fun a => pieceSet (at_ a.1.1 a.1.2) a.2.2 a.2.1) ?_).trans ?_)
  · rw [pieces_cover]
  · intro a ha b hb h
    simp only [Finset.mem_product, Finset.mem_univ, Finset.mem_range, true_and] at ha hb
    exact pieces_disjoint a b ha hb h
  · rw [SparseCore.bigSep_product, SparseCore.bigSep_product]
    refine bigSep_congr fun c _ => bigSep_congr fun i _ => ?_
    rw [SparseCore.bigSep_product]
    unfold pieces
    refine bigSep_congr fun w _ => ?_
    rw [show Finset.range 2 = {0, 1} from rfl, bigSep_insert (by decide), bigSep_singleton]
    rfl

/-! ## The tables are read by all the tiles -/

omit [FloatOps F] in
theorem readers_deal {ι : Type} [Fintype ι] [LinearOrder ι] [Nonempty ι] (d : Dev nD) (q : PosShare TreeShare) (col row dep : S6400.Idx → F .f32) :
    (readers d q col row dep : sProp (MM F)) = bigSep Finset.univ fun i : ι => readers d (dealOf q Finset.univ i) col row dep := by
  unfold readers
  rw [bigSep_sep', bigSep_sep', ← pointsTo_deal Finset.univ Finset.univ_nonempty, ← pointsTo_deal Finset.univ Finset.univ_nonempty,
    ← pointsTo_deal Finset.univ Finset.univ_nonempty]

/-! ## What the handshakes carry -/

/-- The contents at the call: of the three tables and of the result, on each device. -/
structure Given (F : FTy → Type) where
  col : Dev nD → S6400.Idx → F .f32
  row : Dev nD → S6400.Idx → F .f32
  dep : Dev nD → S6400.Idx → F .f32
  old : Dev nD → S25165824.Idx → F .f32

variable (G : Given F)

/-- What the call leaves of the result. -/
abbrev Given.out (d : Dev nD) : S25165824.Idx → F .f32 := filled (G.col d) (G.row d) (G.dep d)

/-- A core's share of the tables. -/
def coreShare (c : Fin ((K (F := F)).nCore 0)) : PosShare TreeShare := dealOf fullShare Finset.univ c
/-- A tile's share of its core's. -/
def tileShare (c : Fin ((K (F := F)).nCore 0)) (i : Fin ((K (F := F)).nSub 0)) : PosShare TreeShare := dealOf (coreShare c) Finset.univ i

/-- A core's part of the call, the result at `f`. -/
def corePart (d : Dev nD) (c : Fin ((K (F := F)).nCore 0)) (f : S25165824.Idx → F .f32) : sProp (MM F) :=
  iprop(readers d (coreShare c) (G.col d) (G.row d) (G.dep d)
    ∗ bigSep Finset.univ fun i : Fin ((K (F := F)).nSub 0) => pieces d (at_ c i) f)
/-- A tile's part of it. -/
def tilePart (d : Dev nD) (c : Fin ((K (F := F)).nCore 0)) (i : Fin ((K (F := F)).nSub 0)) (f : S25165824.Idx → F .f32) : sProp (MM F) :=
  iprop(readers d (tileShare c i) (G.col d) (G.row d) (G.dep d) ∗ pieces d (at_ c i) f)

instance corePart_storable (d : Dev nD) (c : Fin ((K (F := F)).nCore 0)) (f : S25165824.Idx → F .f32) :
    BI.Storable (upEmb : UEmb _ (MM F)) (corePart G d c f) := by
  unfold corePart readers pieces
  infer_instance
instance tilePart_storable (d : Dev nD) (c : Fin ((K (F := F)).nCore 0)) (i : Fin ((K (F := F)).nSub 0)) (f : S25165824.Idx → F .f32) :
    BI.Storable (upEmb : UEmb _ (MM F)) (tilePart G d c i f) := by
  unfold tilePart readers pieces
  infer_instance

omit [FloatOps F] in
theorem corePart_tiles (d : Dev nD) (c : Fin ((K (F := F)).nCore 0)) (f : S25165824.Idx → F .f32) :
    corePart G d c f = bigSep Finset.univ fun i : Fin ((K (F := F)).nSub 0) => tilePart G d c i f := by
  have : Nonempty (Fin ((K (F := F)).nSub 0)) := ⟨⟨0, show 0 < 16 by decide⟩⟩
  unfold corePart tilePart tileShare
  rw [bigSep_sep', ← readers_deal]

omit [FloatOps F] in
/-- The tables and the result whole are the parts of the cores. -/
theorem whole_cores (d : Dev nD) (f : S25165824.Idx → F .f32) :
    (iprop(readers d fullShare (G.col d) (G.row d) (G.dep d) ∗ outLoc d ↦{fullShare} f) : sProp (MM F))
      = bigSep Finset.univ fun c : Fin ((K (F := F)).nCore 0) => corePart G d c f := by
  have : Nonempty (Fin ((K (F := F)).nCore 0)) := ⟨⟨0, show 0 < 2 by decide⟩⟩
  unfold corePart coreShare
  rw [bigSep_sep', ← readers_deal, out_pieces]

/-- The call takes the tables and the result, deals them to the tiles, and brings them back with the result filled. -/
def P : (K (F := F)).Pay (nD := nD) (Val := Elt F) (Name := ℕ) (U := UU) where
  st := fun q d c => match q with | 0 => corePart G d c (G.old d)
  dn := fun q d c => match q with | 0 => corePart G d c (G.out d)
  go := fun q d c i => match q with | 0 => tilePart G d c i (G.old d)
  td := fun q d c i => match q with | 0 => tilePart G d c i (G.out d)
  x := fun _ _ => iprop(emp)

instance P_storable : (P G).IsStorable where
  st q d c := match q with | 0 => corePart_storable G d c (G.old d)
  dn q d c := match q with | 0 => corePart_storable G d c (G.out d)
  go q d c i := match q with | 0 => tilePart_storable G d c i (G.old d)
  td q d c i := match q with | 0 => tilePart_storable G d c i (G.out d)

theorem vecSplit : (K (F := F)).VecSplit' (P G) 0 := by
  intro d c
  show corePart G d c (G.old d) ⊢ |={Set.univ}=> iprop(
      (bigSep Finset.univ fun i : Fin ((K (F := F)).nSub 0) => tilePart G d c i (G.old d))
      ∗ ((bigSep Finset.univ fun i : Fin ((K (F := F)).nSub 0) => tilePart G d c i (G.out d)) -∗ corePart G d c (G.out d)))
  rw [corePart_tiles, corePart_tiles]
  iintro H
  imodintro
  isplitl [H]; · iexact H
  iintro H
  iexact H

/-! ## The task of a tile -/

theorem defs₀_vector (c : Fin τ.nSC) (s : Fin τ.nSub) :
    defs₀ (F := F) (.scVector c s) 0 ()
      = SparseCore.onTile hcore0 hsub0 (fun c s => cc0__pos_embed_body (coordsV c s) colH (Memref.isWhole_whole _) rowH (Memref.isWhole_whole _)
          depH (Memref.isWhole_whole _) outH (Memref.isWhole_whole _) colM (Memref.isWhole_whole _) rowM (Memref.isWhole_whole _)
          depM (Memref.isWhole_whole _) slabA (Memref.isWhole_whole _) slabB (Memref.isWhole_whole _)
          cc0_scratch5 cc0_scratch6 cc0_scoped0 cc0_scoped1 cc0_scoped2) ⟨⟩ c s := rfl

theorem tileObl : (K (F := F)).TileObl (D (F := F)) 𝒱 (P G) v₀ 0 := by
  intro d c i O W hO _ _
  simp only [show (P G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  generalize hp : cc0__pos_embed_body (F := F) (coordsV ⟨_, hci.1⟩ ⟨_, hci.2⟩) colH (Memref.isWhole_whole _) rowH (Memref.isWhole_whole _)
    depH (Memref.isWhole_whole _) outH (Memref.isWhole_whole _) colM (Memref.isWhole_whole _) rowM (Memref.isWhole_whole _)
    depM (Memref.isWhole_whole _) slabA (Memref.isWhole_whole _) slabB (Memref.isWhole_whole _)
    cc0_scratch5 cc0_scratch6 cc0_scoped0 cc0_scoped1 cc0_scoped2 = p
  exact tile_body d (at_ c i) (tileShare c i) (G.col d) (G.row d) (G.dep d) (G.old d) O W hO p hp.symm

/-! ## The launch's own element -/

def u₀ : UU := (initOf (K (F := F)).hsCells (K (F := F)).hsToks, 1)

omit [FloatOps F] in
theorem bigSep_nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P G).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [bigSep_nothing]; iempintro
  rw [show (bigSep Finset.univ fun thr : Thread nD τ => bigSep Finset.univ fun q : Fin 1 => (P G).x q thr) = bigSep Finset.univ fun _ => iprop(emp) from
    bigSep_congr fun _ _ => bigSep_univ_of_subsingleton (0 : Fin 1), bigSep_nothing]
  iempintro

theorem start_eq (d : Dev nD) : (bigSep Finset.univ fun c : Fin ((K (F := F)).nCore 0) => (P G).st 0 d c)
    = iprop(readers d fullShare (G.col d) (G.row d) (G.dep d) ∗ outLoc d ↦{fullShare} G.old d) := (whole_cores G d (G.old d)).symm
theorem done_eq (d : Dev nD) : (bigSep Finset.univ fun c : Fin ((K (F := F)).nCore 0) => (P G).dn 0 d c)
    = iprop(readers d fullShare (G.col d) (G.row d) (G.dep d) ∗ outLoc d ↦{fullShare} G.out d) := (whole_cores G d (G.out d)).symm

end Cert.Proof.Embed
end
-- ==== Proof.Main.lean ====
/-
  The whole program: the host's reshapes before the call, the call, the rearrangement after it, and the run of all threads.
-/
module

public import proofs.«01_k».proof.Proof.Launch

@[expose] public section

noncomputable section

namespace Cert.Proof.Embed

open Cert.KernelIdeal Cert.KernelIdeal.Gen
open Idealize.ShloMosaic
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The host's operations and arrays -/

/-- An array of the TensorCore's, as the device names it. -/
abbrev ref (b : Ref sig .tc) : DevRef τ sig := Proc.devRef .tc b

abbrev opCol : HloOp τ sig (Elt F) := StableHlo.reshape main_arg2 main_v0 (rfl : (.f32 : EltTy) = .f32) Gen.shapeCasts_S50x128_S6400
abbrev opRow : HloOp τ sig (Elt F) := StableHlo.reshape main_arg1 main_v1 (rfl : (.f32 : EltTy) = .f32) Gen.shapeCasts_S50x128_S6400
abbrev opDep : HloOp τ sig (Elt F) := StableHlo.reshape main_arg3 main_v2 (rfl : (.f32 : EltTy) = .f32) Gen.shapeCasts_S50x128_S6400
abbrev opCut : HloOp τ sig (Elt F) :=
  StableHlo.reshape main_v3 main_v4 (rfl : (.f32 : EltTy) = .f32) Gen.shapeCasts_S25165824_S2x32x32x4x3x8x128
abbrev opTurn : HloOp τ sig (Elt F) :=
  StableHlo.unary main_v4 main_v5 ((transpose S2x3x128x32x32x4x8 [0, 4, 6, 1, 2, 3, 5] ·
    Gen.transposes_S2x32x32x4x3x8x128_S2x3x128x32x32x4x8_0_4_6_1_2_3_5) :
      (⟨S2x32x32x4x3x8x128, .f32⟩ : BufTy).Contents (Elt F) → (⟨S2x3x128x32x32x4x8, .f32⟩ : BufTy).Contents (Elt F))
abbrev opJoin : HloOp τ sig (Elt F) :=
  StableHlo.reshape main_v5 main_v6 (rfl : (.f32 : EltTy) = .f32) Gen.shapeCasts_S2x3x128x32x32x4x8_S2x384x32x32x32

/-- The arrays of the TensorCore. -/
abbrev S11 : Finset (DevRef τ sig) :=
  {ref main_arg0, ref main_arg1, ref main_arg2, ref main_arg3, ref main_v0, ref main_v1, ref main_v2, ref main_v3, ref main_v4, ref main_v5, ref main_v6}

/-- A table, flattened. -/
def flattened (t : S50x128.Idx → F .f32) : S6400.Idx → F .f32 := shapeCast S6400 t Gen.shapeCasts_S50x128_S6400

/-- The rearrangement after the call. -/
def arranged (o : S25165824.Idx → F .f32) : S2x384x32x32x32.Idx → F .f32 :=
  shapeCast S2x384x32x32x32
    (transpose S2x3x128x32x32x4x8 [0, 4, 6, 1, 2, 3, 5]
      (shapeCast S2x32x32x4x3x8x128 o Gen.shapeCasts_S25165824_S2x32x32x4x3x8x128)
      Gen.transposes_S2x32x32x4x3x8x128_S2x3x128x32x32x4x8_0_4_6_1_2_3_5)
    Gen.shapeCasts_S2x3x128x32x32x4x8_S2x384x32x32x32

/-- The contents at the call. -/
def given : Given F where
  col d := flattened (m ((SparseCore.T d).loc main_arg2))
  row d := flattened (m ((SparseCore.T d).loc main_arg1))
  dep d := flattened (m ((SparseCore.T d).loc main_arg3))
  old d := m ((SparseCore.T d).loc main_v3)

/-- The result of the program. -/
def result (d : Dev nD) : S2x384x32x32x32.Idx → F .f32 := arranged ((given m).out d)

/-- The contents of the arrays at the launch, before the call, after it, and at the end. -/
def V0 (d : Dev nD) : Valuation τ sig (Elt F) := fun b => m (d, b)
def V3 (d : Dev nD) : Valuation τ sig (Elt F) := (opDep (F := F)).result ((opRow (F := F)).result ((opCol (F := F)).result (V0 m d)))
def V4 (d : Dev nD) : Valuation τ sig (Elt F) := Function.update (V3 m d) (ref main_v3) ((given m).out d)
def V7 (d : Dev nD) : Valuation τ sig (Elt F) := (opJoin (F := F)).result ((opTurn (F := F)).result ((opCut (F := F)).result (V4 m d)))

theorem V3_eq (d : Dev nD) : (opDep (F := F)).result ((opRow (F := F)).result ((opCol (F := F)).result (V0 m d))) = V3 m d := rfl

theorem V3_of_ne (d : Dev nD) {b : Ref sig .tc} (h₀ : b ≠ main_v0) (h₁ : b ≠ main_v1) (h₂ : b ≠ main_v2) :
    V3 m d (ref b) = m ((SparseCore.T d).loc b) := by
  unfold V3
  rw [StableHlo.reshape_result_ne _ _ _ _ _ _ _ h₂, StableHlo.reshape_result_ne _ _ _ _ _ _ _ h₁, StableHlo.reshape_result_ne _ _ _ _ _ _ _ h₀]
  rfl

theorem V3_col (d : Dev nD) : V3 m d (ref main_v0) = (given m).col d := by
  unfold V3
  rw [StableHlo.reshape_result_ne _ _ _ _ _ _ _ (show main_v0 ≠ main_v2 by decide), StableHlo.reshape_result_ne _ _ _ _ _ _ _ (show main_v0 ≠ main_v1 by decide),
    StableHlo.reshape_result]
  rfl

theorem V3_row (d : Dev nD) : V3 m d (ref main_v1) = (given m).row d := by
  unfold V3
  rw [StableHlo.reshape_result_ne _ _ _ _ _ _ _ (show main_v1 ≠ main_v2 by decide), StableHlo.reshape_result,
    StableHlo.reshape_result_ne _ _ _ _ _ _ _ (show main_arg1 ≠ main_v0 by decide)]
  rfl

theorem V3_dep (d : Dev nD) : V3 m d (ref main_v2) = (given m).dep d := by
  unfold V3
  rw [StableHlo.reshape_result, StableHlo.reshape_result_ne _ _ _ _ _ _ _ (show main_arg3 ≠ main_v1 by decide),
    StableHlo.reshape_result_ne _ _ _ _ _ _ _ (show main_arg3 ≠ main_v0 by decide)]
  rfl

theorem V4_of_ne (d : Dev nD) {b : Ref sig .tc} (h : ref b ≠ ref main_v3) : V4 m d (ref b) = V3 m d (ref b) := Function.update_of_ne h _ _
theorem V4_out (d : Dev nD) : V4 m d (ref main_v3) = (given m).out d := Function.update_self _ _ _

theorem V7_of_ne (d : Dev nD) {b : Ref sig .tc} (h₀ : b ≠ main_v4) (h₁ : b ≠ main_v5) (h₂ : b ≠ main_v6) :
    V7 m d (ref b) = V4 m d (ref b) := by
  unfold V7
  rw [StableHlo.reshape_result_ne _ _ _ _ _ _ _ h₂, StableHlo.unary_result_ne _ _ _ _ _ _ h₁, StableHlo.reshape_result_ne _ _ _ _ _ _ _ h₀]

theorem V7_result (d : Dev nD) : V7 m d (ref main_v6) = result m d := by
  unfold V7
  rw [StableHlo.reshape_result, StableHlo.unary_result, StableHlo.reshape_result, V4_out]
  rfl

omit [FloatOps F] in
theorem held_S11 (d : Dev nD) (W : Valuation τ sig (Elt F)) :
    (held (SparseCore.T d) S11 W : sProp (MM F))
      = iprop(((SparseCore.T d).loc main_arg0 ↦{fullShare} W (ref main_arg0)) ∗ ((SparseCore.T d).loc main_arg1 ↦{fullShare} W (ref main_arg1))
          ∗ ((SparseCore.T d).loc main_arg2 ↦{fullShare} W (ref main_arg2)) ∗ ((SparseCore.T d).loc main_arg3 ↦{fullShare} W (ref main_arg3))
          ∗ (colLoc d ↦{fullShare} W (ref main_v0)) ∗ (rowLoc d ↦{fullShare} W (ref main_v1)) ∗ (depLoc d ↦{fullShare} W (ref main_v2))
          ∗ (outLoc d ↦{fullShare} W (ref main_v3)) ∗ ((SparseCore.T d).loc main_v4 ↦{fullShare} W (ref main_v4))
          ∗ ((SparseCore.T d).loc main_v5 ↦{fullShare} W (ref main_v5)) ∗ (SparseCore.T d).loc main_v6 ↦{fullShare} W (ref main_v6)) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscoped_held (d : Dev nD) : (unscopedBufs d (fun b => m ((SparseCore.T d).loc b)) : sProp (MM F)) = held (SparseCore.T d) S11 (V0 m d) := by
  rw [held_S11]
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

theorem hCol : (opCol (F := F)).bufs ⊆ S11 := show ({ref main_arg2, ref main_v0} : Finset (DevRef τ sig)) ⊆ S11 by decide
theorem hRow : (opRow (F := F)).bufs ⊆ S11 := show ({ref main_arg1, ref main_v1} : Finset (DevRef τ sig)) ⊆ S11 by decide
theorem hDep : (opDep (F := F)).bufs ⊆ S11 := show ({ref main_arg3, ref main_v2} : Finset (DevRef τ sig)) ⊆ S11 by decide
theorem hCut : (opCut (F := F)).bufs ⊆ S11 := show ({ref main_v3, ref main_v4} : Finset (DevRef τ sig)) ⊆ S11 by decide
theorem hTurn : (opTurn (F := F)).bufs ⊆ S11 := show ({ref main_v4, ref main_v5} : Finset (DevRef τ sig)) ⊆ S11 by decide
theorem hJoin : (opJoin (F := F)).bufs ⊆ S11 := show ({ref main_v5, ref main_v6} : Finset (DevRef τ sig)) ⊆ S11 by decide

/-- What the program leaves on device `d`: all its arrays at their last contents. -/
abbrev FIN (d : Dev nD) : sProp (MM F) := held (SparseCore.T d) S11 (V7 m d)

/-- The arrays at the call. -/
theorem held_before (d : Dev nD) :
    (held (SparseCore.T d) S11 ((opDep (F := F)).result ((opRow (F := F)).result ((opCol (F := F)).result (V0 m d)))) : sProp (MM F))
      = iprop(((SparseCore.T d).loc main_arg0 ↦{fullShare} V3 m d (ref main_arg0)) ∗ ((SparseCore.T d).loc main_arg1 ↦{fullShare} V3 m d (ref main_arg1))
          ∗ ((SparseCore.T d).loc main_arg2 ↦{fullShare} V3 m d (ref main_arg2)) ∗ ((SparseCore.T d).loc main_arg3 ↦{fullShare} V3 m d (ref main_arg3))
          ∗ (colLoc d ↦{fullShare} (given m).col d) ∗ (rowLoc d ↦{fullShare} (given m).row d) ∗ (depLoc d ↦{fullShare} (given m).dep d)
          ∗ (outLoc d ↦{fullShare} (given m).old d) ∗ ((SparseCore.T d).loc main_v4 ↦{fullShare} V3 m d (ref main_v4))
          ∗ ((SparseCore.T d).loc main_v5 ↦{fullShare} V3 m d (ref main_v5)) ∗ (SparseCore.T d).loc main_v6 ↦{fullShare} V3 m d (ref main_v6)) := by
  rw [V3_eq, held_S11, V3_col, V3_row, V3_dep, V3_of_ne m d (b := main_v3) (by decide) (by decide) (by decide)]
  rfl

/-- The arrays after the call. -/
theorem held_after (d : Dev nD) :
    (held (SparseCore.T d) S11 (V4 m d) : sProp (MM F))
      = iprop(((SparseCore.T d).loc main_arg0 ↦{fullShare} V3 m d (ref main_arg0)) ∗ ((SparseCore.T d).loc main_arg1 ↦{fullShare} V3 m d (ref main_arg1))
          ∗ ((SparseCore.T d).loc main_arg2 ↦{fullShare} V3 m d (ref main_arg2)) ∗ ((SparseCore.T d).loc main_arg3 ↦{fullShare} V3 m d (ref main_arg3))
          ∗ (colLoc d ↦{fullShare} (given m).col d) ∗ (rowLoc d ↦{fullShare} (given m).row d) ∗ (depLoc d ↦{fullShare} (given m).dep d)
          ∗ (outLoc d ↦{fullShare} (given m).out d) ∗ ((SparseCore.T d).loc main_v4 ↦{fullShare} V3 m d (ref main_v4))
          ∗ ((SparseCore.T d).loc main_v5 ↦{fullShare} V3 m d (ref main_v5)) ∗ (SparseCore.T d).loc main_v6 ↦{fullShare} V3 m d (ref main_v6)) := by
  rw [held_S11, V4_out, V4_of_ne m d (b := main_arg0) (by decide), V4_of_ne m d (b := main_arg1) (by decide),
    V4_of_ne m d (b := main_arg2) (by decide), V4_of_ne m d (b := main_arg3) (by decide), V4_of_ne m d (b := main_v0) (by decide),
    V4_of_ne m d (b := main_v1) (by decide), V4_of_ne m d (b := main_v2) (by decide), V4_of_ne m d (b := main_v4) (by decide),
    V4_of_ne m d (b := main_v5) (by decide), V4_of_ne m d (b := main_v6) (by decide), V3_col, V3_row, V3_dep]

/-- The program of the TensorCore. -/
theorem hmain (κ : GSem nD τ sig → ℕ) (d : Dev nD) :
    iprop((K (F := F)).ctx EH (P (given m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCol) (S := S11) hCol (V := V0 m d)) $$ [Hb Hheld]
  · isplitl [Hb] <;> iassumption
  iintro ⟨Hb, Hheld⟩
  rw [wp_ret]; imodintro
  iapply (wp_hlo_within 𝒱 (SparseCore.T d) none Set.univ (op := opRow) (S := S11) hRow (V := (opCol (F := F)).result (V0 m d))) $$ [Hb Hheld]
  · isplitl [Hb] <;> iassumption
  iintro ⟨Hb, Hheld⟩
  rw [wp_ret]; imodintro
  iapply (wp_hlo_within 𝒱 (SparseCore.T d) none Set.univ (op := opDep) (S := S11) hDep
    (V := (opRow (F := F)).result ((opCol (F := F)).result (V0 m d)))) $$ [Hb Hheld]
  · isplitl [Hb] <;> iassumption
  iintro ⟨Hb, Hheld⟩
  rw [wp_ret]; imodintro
  ihave Hh := (Entails.of_eq (held_before m d)) $$ Hheld
  icases Hh with ⟨H0, H1, H2, H3, Hc, Hr, Hd, Ho, H4, H5, H6⟩
  iapply ((K (F := F)).wp_run (D (F := F)) 𝒱 (EH := EH) (P := P (given m)) κ d 0) $$ [Hst Hc Hr Hd Ho Hb H0 H1 H2 H3 H4 H5 H6 Hts]
  isplitr; · iexact Hctx
  isplitl [Hst]; · iexact Hst
  isplitl [Hc Hr Hd Ho]
  · rw [start_eq]
    unfold readers
    isplitl [Hc Hr Hd]
    · isplitl [Hc]; · iexact Hc
      isplitl [Hr]; · iexact Hr
      iexact Hd
    iexact Ho
  iintro ⟨Hst, Hdn⟩
  ihave Hdn' := (Entails.of_eq (done_eq (given m) d)) $$ Hdn
  unfold readers
  icases Hdn' with ⟨⟨Hc, Hr, Hd⟩, Ho⟩
  iapply (wp_hlo_within 𝒱 (SparseCore.T d) none Set.univ (op := opCut) (S := S11) hCut (V := V4 m d)) $$ [Hb H0 H1 H2 H3 Hc Hr Hd Ho H4 H5 H6]
  · isplitl [Hb]; · iexact Hb
    rw [held_after]
    isplitl [H0]; · iexact H0
    isplitl [H1]; · iexact H1
    isplitl [H2]; · iexact H2
    isplitl [H3]; · iexact H3
    isplitl [Hc]; · iexact Hc
    isplitl [Hr]; · iexact Hr
    isplitl [Hd]; · iexact Hd
    isplitl [Ho]; · iexact Ho
    isplitl [H4]; · iexact H4
    isplitl [H5]; · iexact H5
    iexact H6
  iintro ⟨Hb, Hheld⟩
  rw [wp_ret]; imodintro
  iapply (wp_hlo_within 𝒱 (SparseCore.T d) none Set.univ (op := opTurn) (S := S11) hTurn (V := (opCut (F := F)).result (V4 m d))) $$ [Hb Hheld]
  · isplitl [Hb] <;> iassumption
  iintro ⟨Hb, Hheld⟩
  rw [wp_ret]; imodintro
  iapply (wp_hlo_within 𝒱 (SparseCore.T d) none Set.univ (op := opJoin) (S := S11) hJoin
    (V := (opTurn (F := F)).result ((opCut (F := F)).result (V4 m d)))) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-! ## The run -/

/-- What the claims read of a device's last state: the arguments as they were, and the result. -/
def fq (d : Dev nD) (s : Phys nD τ sig (Elt F)) : Prop :=
  s.mem.mem ((SparseCore.T d).loc main_v6) = result m d
  ∧ s.mem.mem ((SparseCore.T d).loc main_arg0) = m ((SparseCore.T d).loc main_arg0)
  ∧ s.mem.mem ((SparseCore.T d).loc main_arg1) = m ((SparseCore.T d).loc main_arg1)
  ∧ s.mem.mem ((SparseCore.T d).loc main_arg2) = m ((SparseCore.T d).loc main_arg2)
  ∧ s.mem.mem ((SparseCore.T d).loc main_arg3) = m ((SparseCore.T d).loc main_arg3)

omit [FloatOps F] in
/-- An array held whole is what the memory holds. -/
theorem reads (s : Phys nD τ sig (Elt F)) (ℓ : Loc nD τ sig) (f : Buf (Elt F) ℓ) :
    iprop((ℓ ↦{fullShare} f) ∗ SI s) ⊢ (iprop(⌜s.mem.mem ℓ = f⌝ ∗ SI s) : sProp (MM F)) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s : Phys nD τ sig (Elt F)) : iprop(FIN m d ∗ SI s) ⊢ (⌜fq m d s⌝ : sProp (MM F)) := by
  unfold FIN
  rw [held_S11, V7_result]
  iintro ⟨⟨H0, H1, H2, H3, -, -, -, -, -, -, H6⟩, HSI⟩
  ihave H := (reads s _ _) $$ [H6 HSI]
  · isplitl [H6] <;> iassumption
  icases H with ⟨%h6, HSI⟩
  ihave H := (reads s _ _) $$ [H0 HSI]
  · isplitl [H0] <;> iassumption
  icases H with ⟨%h0, HSI⟩
  ihave H := (reads s _ _) $$ [H1 HSI]
  · isplitl [H1] <;> iassumption
  icases H with ⟨%h1, HSI⟩
  ihave H := (reads s _ _) $$ [H2 HSI]
  · isplitl [H2] <;> iassumption
  icases H with ⟨%h2, HSI⟩
  ihave H := (reads s _ _) $$ [H3 HSI]
  · isplitl [H3] <;> iassumption
  icases H with ⟨%h3, -⟩
  ipureintro
  have hV : ∀ b : Ref sig .tc, b ≠ main_v0 → b ≠ main_v1 → b ≠ main_v2 → ref b ≠ ref main_v3 → b ≠ main_v4 → b ≠ main_v5 → b ≠ main_v6 →
      V7 m d (ref b) = m ((SparseCore.T d).loc b) := fun b h₀ h₁ h₂ h₃ h₄ h₅ h₆ =>
    (V7_of_ne m d h₄ h₅ h₆).trans ((V4_of_ne m d h₃).trans (V3_of_ne m d h₀ h₁ h₂))
  refine ⟨h6, h0.trans (hV main_arg0 ?_ ?_ ?_ ?_ ?_ ?_ ?_), h1.trans (hV main_arg1 ?_ ?_ ?_ ?_ ?_ ?_ ?_),
    h2.trans (hV main_arg2 ?_ ?_ ?_ ?_ ?_ ?_ ?_), h3.trans (hV main_arg3 ?_ ?_ ?_ ?_ ?_ ?_ ?_)⟩ <;> decide

/-- The end of a run: on every device the result and the arguments as they were, and every semaphore back at zero. -/
def QC : PUnit × MemSt nD τ sig (Elt F) → Prop := fun r => (∀ d : Dev nD,
  r.2.mem ((SparseCore.T d).loc main_v6) = result m d
  ∧ r.2.mem ((SparseCore.T d).loc main_arg0) = m ((SparseCore.T d).loc main_arg0)
  ∧ r.2.mem ((SparseCore.T d).loc main_arg1) = m ((SparseCore.T d).loc main_arg1)
  ∧ r.2.mem ((SparseCore.T d).loc main_arg2) = m ((SparseCore.T d).loc main_arg2)
  ∧ r.2.mem ((SparseCore.T d).loc main_arg3) = m ((SparseCore.T d).loc main_arg3)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (given m)) (A := ∅) facts v₀
    (fun q hq => match q with | 0 => nomatch hq)
    (fun q _ => match q with | 0 => tileObl (given m))
    (fun q _ => match q with | 0 => SparseCore.Cfg.VecSplit.of_plain (vecSplit (given m)))
    m ρ main (fun _ => iprop(emp)) (FIN m) (u₀ (F := F)) (sep_elim_left.trans (hu₀ (given m))) (hmain m ρ) (fq m) (hfin m) (QC m)
    (fun _ h hz => ⟨h, hz⟩)

end Cert.Proof.Embed
end
-- ==== Proof.Place.lean ====
/-
  Indices by coordinates at the ranks that the two programs' reshapes pass through, their row-major positions,
  and the entry that both programs leave at each index of the result.
-/
module

public import Idealize.ShloMosaic.Lib.ValueIdxCore
public import Idealize.ShloMosaic.Lib.Pipeline.Value

@[expose] public section

noncomputable section

namespace Cert.Proof.Embed

open Idealize.ShloMosaic Idealize.ShloMosaic.ValueIdx

/-! ## Ranks 7, 8 and 10 -/

/-- An index of rank 7 from its coordinates. -/
abbrev at7 {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx :=
  fun x => match x with | ⟨0, _⟩ => a | ⟨1, _⟩ => b | ⟨2, _⟩ => c | ⟨3, _⟩ => d | ⟨4, _⟩ => e | ⟨5, _⟩ => f | ⟨6, _⟩ => g

/-- An index of rank 8 from its coordinates. -/
abbrev at8 {n0 n1 n2 n3 n4 n5 n6 n7 : ℕ} (a : Fin n0) (b : Fin n1) (c : Fin n2) (d : Fin n3) (e : Fin n4) (f : Fin n5) (g : Fin n6) (h : Fin n7) :
    (⟨8, ![n0, n1, n2, n3, n4, n5, n6, n7]⟩ : Shape).Idx :=
  fun x => match x with | ⟨0, _⟩ => a | ⟨1, _⟩ => b | ⟨2, _⟩ => c | ⟨3, _⟩ => d | ⟨4, _⟩ => e | ⟨5, _⟩ => f | ⟨6, _⟩ => g | ⟨7, _⟩ => h

/-- An index of rank 10 from its coordinates. -/
abbrev at10 {n0 n1 n2 n3 n4 n5 n6 n7 n8 n9 : ℕ} (a : Fin n0) (b : Fin n1) (c : Fin n2) (d : Fin n3) (e : Fin n4) (f : Fin n5) (g : Fin n6) (h : Fin n7)
    (k : Fin n8) (l : Fin n9) : (⟨10, ![n0, n1, n2, n3, n4, n5, n6, n7, n8, n9]⟩ : Shape).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h | ⟨8, _⟩ => k | ⟨9, _⟩ => l

/-- A row-major position with the LAST axis split off. -/
theorem position_last {n : ℕ} (d : Fin (n + 1) → ℕ) (x : (a : Fin (n + 1)) → Fin (d a)) :
    (Shape.rowMajorPi d x).val = (Shape.rowMajorPi (fun a : Fin n => d a.castSucc) fun a => x a.castSucc).val * d (Fin.last n) + (x (Fin.last n)).val := by
  induction n with
  | zero => rw [Shape.rowMajorPi_succ_val, Shape.rowMajorPi_zero, Shape.rowMajorPi_zero]; simp
  | succ n ih =>
    rw [Shape.rowMajorPi_succ_val, ih (fun a => d a.succ) (fun a => x a.succ), Shape.rowMajorPi_succ_val (fun a : Fin (n + 1) => d a.castSucc),
      Fin.prod_univ_castSucc]
    simp only [Fin.succ_castSucc, Fin.castSucc_zero, Fin.succ_last]
    rw [Nat.add_mul, Nat.mul_assoc]
    exact (Nat.add_assoc _ _ _).symm

theorem position7 {d : Fin 7 → ℕ} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [position_last, position_last, position_last, position_last, position_last, position_last, position_last, Shape.rowMajorPi_zero]
  simp only [Nat.zero_mul, Nat.zero_add]
  rfl

theorem position8 {d : Fin 8 → ℕ} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6 + (i 6).val) * d 7
        + (i 7).val := by
  show (Shape.rowMajorPi d i).val = _
  rw [position_last]
  exact congrArg (· * d 7 + (i 7).val) (position7 (d := fun a => d a.castSucc) fun a => i a.castSucc)

theorem position10 {d : Fin 10 → ℕ} (i : (⟨10, d⟩ : Shape).Idx) :
    ((⟨10, d⟩ : Shape).rowMajor i).val
      = (((((((((i 0).val * d 1 + (i 1).val) * d 2 + (i 2).val) * d 3 + (i 3).val) * d 4 + (i 4).val) * d 5 + (i 5).val) * d 6 + (i 6).val) * d 7
        + (i 7).val) * d 8 + (i 8).val) * d 9 + (i 9).val := by
  show (Shape.rowMajorPi d i).val = _
  rw [position_last, position_last]
  exact congrArg (fun p => (p * d 8 + (i 8).val) * d 9 + (i 9).val) (position8 (d := fun a => d a.castSucc.castSucc) fun a => i a.castSucc.castSucc)

/-! ## The entry -/

/-- The result at batch `b`, channel `ch`, place `(h, w, z)`: the first 128 channels are the row `w` of the column table, the next
    128 the row `h` of the row table, the last 128 the row `z` of the depth table. -/
def entry {α : Type} (col row dep : (⟨2, ![50, 128]⟩ : Shape).Idx → α) (ch : Fin 384) (h w z : Fin 32) : α :=
  if ch.val < 128 then col (ix2 ⟨w.val, by omega⟩ ⟨ch.val % 128, Nat.mod_lt _ (by decide)⟩)
  else if ch.val < 256 then row (ix2 ⟨h.val, by omega⟩ ⟨ch.val % 128, Nat.mod_lt _ (by decide)⟩)
  else dep (ix2 ⟨z.val, by omega⟩ ⟨ch.val % 128, Nat.mod_lt _ (by decide)⟩)

end Cert.Proof.Embed
end
-- ==== Proof.Value.lean ====
/-
  The kernel's result, entry by entry: the rearrangement undone, the slab's entry read, the tables unflattened.
-/
module

public import proofs.«01_k».proof.Proof.Main
public import proofs.«01_k».proof.Proof.Place

@[expose] public section

noncomputable section

namespace Cert.Proof.Embed

open Cert.KernelIdeal Cert.KernelIdeal.Gen
open Idealize.ShloMosaic Idealize.ShloMosaic.ValueIdx

variable {F : FTy → Type} [FloatOps F]

omit [FloatOps F] in
/-- The flattened table at `128 r + c` is the table at `(r, c)`. -/
theorem unflat_flattened (t : S50x128.Idx → F .f32) (n r c : ℕ) (hr : r < 50) (hc : c < 128) (hn : n = r * 128 + c) :
    unflat (flattened t) n = t (ix2 ⟨r, hr⟩ ⟨c, hc⟩) := by
  subst hn
  unfold unflat flattened
  refine shapeCast_apply _ _ _ _ ?_
  rw [Shape.rowMajor_val_one, Shape.rowMajor_val_two]
  show r * 128 + c = (r * 128 + c) % 6400
  rw [Nat.mod_eq_of_lt (by omega)]

omit [FloatOps F] in
/-- The rearranged array at `(b, ch, h, w, z)` is the call's result at its place there. -/
theorem arranged_apply (o : S25165824.Idx → F .f32) (b : Fin 2) (ch : Fin 384) (h w z : Fin 32) :
    arranged o (ix5 b ch h w z)
      = o (ix1 ⟨(((b.val * 32 + h.val) * 32 + w.val) * 4 + z.val / 8) * 3072 + (ch.val / 128 * 8 + z.val % 8) * 128 + ch.val % 128, by omega⟩) := by
  unfold arranged
  rw [shapeCast_apply _ _ _ (at7 b (⟨ch.val / 128, by omega⟩ : Fin 3) (⟨ch.val % 128, by omega⟩ : Fin 128) h w
      (⟨z.val / 8, by omega⟩ : Fin 4) (⟨z.val % 8, by omega⟩ : Fin 8)) ?_,
    transpose_apply _ _ _ _ (at7 b h w (⟨z.val / 8, by omega⟩ : Fin 4) (⟨ch.val / 128, by omega⟩ : Fin 3) (⟨z.val % 8, by omega⟩ : Fin 8)
      (⟨ch.val % 128, by omega⟩ : Fin 128)) ?_]
  · refine shapeCast_apply _ _ _ _ ?_
    rw [Shape.rowMajor_val_one, position7]
    show (((b.val * 32 + h.val) * 32 + w.val) * 4 + z.val / 8) * 3072 + (ch.val / 128 * 8 + z.val % 8) * 128 + ch.val % 128
      = (((((b.val * 32 + h.val) * 32 + w.val) * 4 + z.val / 8) * 3 + ch.val / 128) * 8 + z.val % 8) * 128 + ch.val % 128
    omega
  · intro a; fin_cases a <;> rfl
  · rw [position7, Shape.rowMajor_val_five]
    show (((((b.val * 3 + ch.val / 128) * 128 + ch.val % 128) * 32 + h.val) * 32 + w.val) * 4 + z.val / 8) * 8 + z.val % 8
      = (((b.val * 384 + ch.val) * 32 + h.val) * 32 + w.val) * 32 + z.val
    omega

omit [FloatOps F] in
/-- The kernel's result at `(b, ch, h, w, z)`, for the tables `col`, `row`, `dep`. -/
theorem arranged_filled (col row dep : S50x128.Idx → F .f32) (b : Fin 2) (ch : Fin 384) (h w z : Fin 32) :
    arranged (filled (flattened col) (flattened row) (flattened dep)) (ix5 b ch h w z) = entry col row dep ch h w z := by
  rw [arranged_apply]
  unfold filled
  show target _ (fun n => unflat (flattened row)
      (((((b.val * 32 + h.val) * 32 + w.val) * 4 + z.val / 8) * 3072 + (ch.val / 128 * 8 + z.val % 8) * 128 + ch.val % 128) / 12288 / 32 % 32 * 128 + n))
    _ (((((b.val * 32 + h.val) * 32 + w.val) * 4 + z.val / 8) * 3072 + (ch.val / 128 * 8 + z.val % 8) * 128 + ch.val % 128) / 12288 % 32)
    (((((b.val * 32 + h.val) * 32 + w.val) * 4 + z.val / 8) * 3072 + (ch.val / 128 * 8 + z.val % 8) * 128 + ch.val % 128) % 12288) = _
  generalize hn : (((b.val * 32 + h.val) * 32 + w.val) * 4 + z.val / 8) * 3072 + (ch.val / 128 * 8 + z.val % 8) * 128 + ch.val % 128 = n
  generalize hm : (z.val / 8) * 3072 + (ch.val / 128 * 8 + z.val % 8) * 128 + ch.val % 128 = m
  have hm₁ : m < 12288 := by omega
  have hs : n = ((b.val * 32 + h.val) * 32 + w.val) * 12288 + m := by omega
  have hq : n / 12288 = (b.val * 32 + h.val) * 32 + w.val := by omega
  have hw : n / 12288 % 32 = w.val := by omega
  have hh : n / 12288 / 32 % 32 = h.val := by omega
  have hr : n % 12288 = m := by omega
  have hd : m / 3072 = z.val / 8 := by omega
  have hct : m / 1024 % 3 = ch.val / 128 := by omega
  have hc : m % 128 = ch.val % 128 := by omega
  have hz : m % 1024 = z.val % 8 * 128 + ch.val % 128 := by omega
  rw [hw, hh, hr]
  unfold target entry
  rw [hct, hc, hd, hz]
  by_cases h1 : ch.val < 128
  · rw [if_pos (by omega), if_pos h1]
    exact unflat_flattened col _ _ _ _ _ rfl
  · rw [if_neg (by omega), if_neg h1]
    by_cases h2 : ch.val < 256
    · rw [if_pos (by omega), if_pos h2]
      exact unflat_flattened row _ _ _ _ _ rfl
    · rw [if_neg (by omega), if_neg h2]
      exact unflat_flattened dep _ _ _ _ _ (by omega)

variable (m : (ℓ : Loc nD τ sig) → Buf (Elt F) ℓ)

/-- The result of the program at `(b, ch, h, w, z)`. -/
theorem result_apply (d : Dev nD) (b : Fin 2) (ch : Fin 384) (h w z : Fin 32) :
    result m d (ix5 b ch h w z)
      = entry (m ((SparseCore.T d).loc main_arg2)) (m ((SparseCore.T d).loc main_arg1)) (m ((SparseCore.T d).loc main_arg3)) ch h w z :=
  arranged_filled _ _ _ b ch h w z

end Cert.Proof.Embed
end
-- ==== Proof.Ref.lean ====
/-
  The reference's result, entry by entry: the rows taken, spread over the two other axes, joined, turned and repeated.
-/
module

public import proofs.«01_k».proof.Proof.Gen.ReferenceIdeal.Run
public import proofs.«01_k».proof.Proof.Place
public import Idealize.ShloMosaic.Lib.ReduceAll
public import Idealize.ShloMosaic.Lib.Routing.Ops

@[expose] public section

noncomputable section

namespace Cert.Proof.Plain

open Cert.ReferenceIdeal Cert.ReferenceIdeal.Gen Cert.Proof.Embed
open Idealize.ShloMosaic Idealize.ShloMosaic.TcCoe Idealize.ShloMosaic.ValueIdx

variable {F : FTy → Type} [FloatOps F]

/-! ## The rows taken -/

/-- The row numbers 0 … 31, a negative one counted from the end. -/
def rows : IVec S32 32 :=
  select (cmpi .slt (iotaInDim S32 32 0) (broadcastInDim S32 ![] bcast_S_S32 (constantI S_ 32 0#32)))
    (addi (iotaInDim S32 32 0) (broadcastInDim S32 ![] bcast_S_S32 (constantI S_ 32 50#32))) (iotaInDim S32 32 0)

/-- The row numbers as a column. -/
def starts : IVec S32x1 32 := broadcastInDim S32x1 ![0] bcast_S32_S32x1_0 rows

/-- Whether each row number is in the table. -/
def inside : IVec S32x1 1 :=
  andi (cmpi .sge starts (broadcastInDim S32x1 ![] bcast_S_S32x1 (constantI S_ 32 0#32)))
    (cmpi .sle starts (broadcastInDim S32x1 ![0, 1] bcast_S1x1_S32x1_0_1 (broadcastInDim S1x1 ![1] bcast_S1_S1x1_1 (constantI S1 32 49#32))))

/-- The first 32 rows of a table, as the reference takes them. -/
def taken (t : S50x128.Idx → F .f32) : S32x128.Idx → F .f32 :=
  select (broadcastInDim S32x128 ![0] bcast_S32_S32x128_0 (Host.reduce IntOp.andi inside (constantI S_ 1 1#1) reducesTo_S32x1_S32_d1 h_S_))
    (Host.gather gather_S50x128_S32x1_S32x128_1_0_n_n_0_1_1128 t starts) (broadcastInDim S32x128 ![] bcast_S_S32x128 (constant S_ .f32 0x7FC00000#32))

theorem rows_apply (r : Fin 32) : rows (ix1 r) = BitVec.ofNat 32 r.val := by revert r; decide

theorem starts_apply (r : Fin 32) (k : Fin 1) : starts (ix2 r k) = BitVec.ofNat 32 r.val := by
  unfold starts
  rw [broadcastInDim_apply _ _ _ _ (ix1 r) (by intro a; fin_cases a; rfl), rows_apply]

theorem inside_all (i : S32x1.Idx) : inside i = 1#1 := by
  obtain ⟨r, k, rfl⟩ : ∃ (r : Fin 32) (k : Fin 1), i = ix2 r k := ⟨i 0, i 1, eq_ix2 i⟩
  show IntOp.andi (IntOp.cmpi .sge (starts (ix2 r k)) 0#32) (IntOp.cmpi .sle (starts (ix2 r k)) 49#32) = 1#1
  rw [starts_apply]
  revert r; decide

theorem taken_apply (t : S50x128.Idx → F .f32) (r : Fin 32) (c : Fin 128) : taken t (ix2 r c) = t (ix2 ⟨r.val, by omega⟩ c) := by
  unfold taken
  have hsel : broadcastInDim S32x128 ![0] bcast_S32_S32x128_0
      (Host.reduce IntOp.andi inside (constantI S_ 1 1#1) reducesTo_S32x1_S32_d1 h_S_) (ix2 r c) = 1#1 :=
    (broadcastInDim_apply _ _ _ _ (ix1 r) (by intro a; fin_cases a; rfl)).trans (Host.reduce_andi_one _ _ _ _ _ rfl inside_all)
  have hrow : Host.gather gather_S50x128_S32x1_S32x128_1_0_n_n_0_1_1128 t starts (ix2 r c) = t (ix2 ⟨r.val, by omega⟩ c) :=
    Routing.gather_row _ rfl rfl rfl rfl rfl t starts r c ⟨r.val, by omega⟩ (starts_apply r 0) (by decide)
  show Scalar.select (broadcastInDim S32x128 ![0] bcast_S32_S32x128_0
      (Host.reduce IntOp.andi inside (constantI S_ 1 1#1) reducesTo_S32x1_S32_d1 h_S_) (ix2 r c)) _ _ = _
  rw [hsel, select_one]
  exact hrow

/-! ## The rows spread over the space -/

/-- Rows along `w`. -/
def alongW (x : S32x128.Idx → F .f32) : S32x32x32x128.Idx → F .f32 :=
  shapeCast S32x32x32x128 (broadcastInDim S32x1x1x32x32x1x1x128 ![0, 1, 2, 3, 4, 5, 6, 7] bcast_S1x1x1x32x1x1x1x128_S32x1x1x32x32x1x1x128_0_1_2_3_4_5_6_7
    (shapeCast S1x1x1x32x1x1x1x128 (broadcastInDim S1x32x1x128 ![1, 3] bcast_S32x128_S1x32x1x128_1_3 x) shapeCasts_S1x32x1x128_S1x1x1x32x1x1x1x128))
    shapeCasts_S32x1x1x32x32x1x1x128_S32x32x32x128

/-- Rows along `h`. -/
def alongH (x : S32x128.Idx → F .f32) : S32x32x32x128.Idx → F .f32 :=
  shapeCast S32x32x32x128 (broadcastInDim S1x32x32x1x32x1x1x128 ![0, 1, 2, 3, 4, 5, 6, 7] bcast_S1x32x1x1x1x1x1x128_S1x32x32x1x32x1x1x128_0_1_2_3_4_5_6_7
    (shapeCast S1x32x1x1x1x1x1x128 (broadcastInDim S32x1x1x128 ![0, 3] bcast_S32x128_S32x1x1x128_0_3 x) shapeCasts_S32x1x1x128_S1x32x1x1x1x1x1x128))
    shapeCasts_S1x32x32x1x32x1x1x128_S32x32x32x128

/-- Rows along `z`. -/
def alongZ (x : S32x128.Idx → F .f32) : S32x32x32x128.Idx → F .f32 :=
  shapeCast S32x32x32x128 (broadcastInDim S32x1x32x1x1x32x1x128 ![0, 1, 2, 3, 4, 5, 6, 7] bcast_S1x1x1x1x1x32x1x128_S32x1x32x1x1x32x1x128_0_1_2_3_4_5_6_7
    (shapeCast S1x1x1x1x1x32x1x128 (broadcastInDim S1x1x32x128 ![2, 3] bcast_S32x128_S1x1x32x128_2_3 x) shapeCasts_S1x1x32x128_S1x1x1x1x1x32x1x128))
    shapeCasts_S32x1x32x1x1x32x1x128_S32x32x32x128

omit [FloatOps F] in
theorem alongW_apply (x : S32x128.Idx → F .f32) (h w z : Fin 32) (c : Fin 128) : alongW x (ix4 h w z c) = x (ix2 w c) := by
  unfold alongW
  rw [shapeCast_apply _ _ _ (at8 h (0 : Fin 1) (0 : Fin 1) w z (0 : Fin 1) (0 : Fin 1) c) ?_,
    broadcastInDim_apply _ _ _ _ (at8 (0 : Fin 1) (0 : Fin 1) (0 : Fin 1) w (0 : Fin 1) (0 : Fin 1) (0 : Fin 1) c) ?_,
    shapeCast_apply _ _ _ (ix4 (0 : Fin 1) w (0 : Fin 1) c) ?_, broadcastInDim_apply _ _ _ _ (ix2 w c) ?_]
  · intro a; fin_cases a <;> rfl
  · rw [Shape.rowMajor_val_four, position8]
    show ((0 * 32 + w.val) * 1 + 0) * 128 + c.val = ((((((0 * 1 + 0) * 1 + 0) * 32 + w.val) * 1 + 0) * 1 + 0) * 1 + 0) * 128 + c.val
    omega
  · intro a; fin_cases a <;> rfl
  · rw [Shape.rowMajor_val_four, position8]
    show ((((((h.val * 1 + 0) * 1 + 0) * 32 + w.val) * 32 + z.val) * 1 + 0) * 1 + 0) * 128 + c.val = ((h.val * 32 + w.val) * 32 + z.val) * 128 + c.val
    omega

omit [FloatOps F] in
theorem alongH_apply (x : S32x128.Idx → F .f32) (h w z : Fin 32) (c : Fin 128) : alongH x (ix4 h w z c) = x (ix2 h c) := by
  unfold alongH
  rw [shapeCast_apply _ _ _ (at8 (0 : Fin 1) h w (0 : Fin 1) z (0 : Fin 1) (0 : Fin 1) c) ?_,
    broadcastInDim_apply _ _ _ _ (at8 (0 : Fin 1) h (0 : Fin 1) (0 : Fin 1) (0 : Fin 1) (0 : Fin 1) (0 : Fin 1) c) ?_,
    shapeCast_apply _ _ _ (ix4 h (0 : Fin 1) (0 : Fin 1) c) ?_, broadcastInDim_apply _ _ _ _ (ix2 h c) ?_]
  · intro a; fin_cases a <;> rfl
  · rw [Shape.rowMajor_val_four, position8]
    show ((h.val * 1 + 0) * 1 + 0) * 128 + c.val = ((((((0 * 32 + h.val) * 1 + 0) * 1 + 0) * 1 + 0) * 1 + 0) * 1 + 0) * 128 + c.val
    omega
  · intro a; fin_cases a <;> rfl
  · rw [Shape.rowMajor_val_four, position8]
    show ((((((0 * 32 + h.val) * 32 + w.val) * 1 + 0) * 32 + z.val) * 1 + 0) * 1 + 0) * 128 + c.val = ((h.val * 32 + w.val) * 32 + z.val) * 128 + c.val
    omega

omit [FloatOps F] in
theorem alongZ_apply (x : S32x128.Idx → F .f32) (h w z : Fin 32) (c : Fin 128) : alongZ x (ix4 h w z c) = x (ix2 z c) := by
  unfold alongZ
  rw [shapeCast_apply _ _ _ (at8 h (0 : Fin 1) w (0 : Fin 1) (0 : Fin 1) z (0 : Fin 1) c) ?_,
    broadcastInDim_apply _ _ _ _ (at8 (0 : Fin 1) (0 : Fin 1) (0 : Fin 1) (0 : Fin 1) (0 : Fin 1) z (0 : Fin 1) c) ?_,
    shapeCast_apply _ _ _ (ix4 (0 : Fin 1) (0 : Fin 1) z c) ?_, broadcastInDim_apply _ _ _ _ (ix2 z c) ?_]
  · intro a; fin_cases a <;> rfl
  · rw [Shape.rowMajor_val_four, position8]
    show ((0 * 1 + 0) * 32 + z.val) * 128 + c.val = ((((((0 * 1 + 0) * 1 + 0) * 1 + 0) * 1 + 0) * 32 + z.val) * 1 + 0) * 128 + c.val
    omega
  · intro a; fin_cases a <;> rfl
  · rw [Shape.rowMajor_val_four, position8]
    show ((((((h.val * 1 + 0) * 32 + w.val) * 1 + 0) * 1 + 0) * 32 + z.val) * 1 + 0) * 128 + c.val = ((h.val * 32 + w.val) * 32 + z.val) * 128 + c.val
    omega

/-! ## The three joined, turned and repeated -/

/-- The three blocks of channels, side by side. -/
def joined (a b c : S32x32x32x128.Idx → F .f32) : S32x32x32x384.Idx → F .f32 :=
  concatenate S32x32x32x384 3 [⟨S32x32x32x128, a⟩, ⟨S32x32x32x128, b⟩, ⟨S32x32x32x128, c⟩]
    concatenates_S32x32x32x128_S32x32x32x128_S32x32x32x128_S32x32x32x384_d3

/-- The channels brought to the front, and the whole repeated for the batch. -/
def repeated (x : S32x32x32x384.Idx → F .f32) : S2x384x32x32x32.Idx → F .f32 :=
  shapeCast S2x384x32x32x32 (broadcastInDim S2x1x1x384x1x32x1x32x1x32 ![0, 1, 2, 3, 4, 5, 6, 7, 8, 9]
    bcast_S1x1x1x384x1x32x1x32x1x32_S2x1x1x384x1x32x1x32x1x32_0_1_2_3_4_5_6_7_8_9
    (shapeCast S1x1x1x384x1x32x1x32x1x32 (broadcastInDim S1x384x32x32x32 ![1, 2, 3, 4] bcast_S384x32x32x32_S1x384x32x32x32_1_2_3_4
      (transpose S384x32x32x32 [3, 0, 1, 2] x transposes_S32x32x32x384_S384x32x32x32_3_0_1_2))
      shapeCasts_S1x384x32x32x32_S1x1x1x384x1x32x1x32x1x32)) shapeCasts_S2x1x1x384x1x32x1x32x1x32_S2x384x32x32x32

omit [FloatOps F] in
theorem joined_apply (a b c : S32x32x32x128.Idx → F .f32) (h w z : Fin 32) (ch : Fin 384) :
    joined a b c (ix4 h w z ch)
      = if ch.val < 128 then a (ix4 h w z ⟨ch.val % 128, Nat.mod_lt _ (by decide)⟩)
        else if ch.val < 256 then b (ix4 h w z ⟨ch.val % 128, Nat.mod_lt _ (by decide)⟩)
        else c (ix4 h w z ⟨ch.val % 128, Nat.mod_lt _ (by decide)⟩) := by
  unfold joined
  have hoff : ∀ q : Fin 4, q.cast rfl ≠ (3 : Fin 4) → ((ix4 h w z (⟨ch.val % 128, Nat.mod_lt _ (by decide)⟩ : Fin 128) : S32x32x32x128.Idx) q).val
      = ((ix4 h w z ch : S32x32x32x384.Idx) (q.cast rfl)).val := fun q hq =>
    match q, hq with | 0, _ => rfl | 1, _ => rfl | 2, _ => rfl | 3, hq => absurd rfl hq
  have piece := concatenate_apply_piece (t := S32x32x32x384) 3 [⟨S32x32x32x128, a⟩, ⟨S32x32x32x128, b⟩, ⟨S32x32x32x128, c⟩]
    concatenates_S32x32x32x128_S32x32x32x128_S32x32x32x128_S32x32x32x384_d3 (ix4 h w z ch)
  split
  · refine piece 0 (by simp) S32x32x32x128 a rfl rfl 0 (by rfl) _ hoff ?_
    show 0 + ch.val % 128 = ch.val
    omega
  split
  · refine piece 1 (by simp) S32x32x32x128 b rfl rfl 128 (by rfl) _ hoff ?_
    show 128 + ch.val % 128 = ch.val
    omega
  · refine piece 2 (by simp) S32x32x32x128 c rfl rfl 256 (by rfl) _ hoff ?_
    show 256 + ch.val % 128 = ch.val
    omega

omit [FloatOps F] in
theorem repeated_apply (x : S32x32x32x384.Idx → F .f32) (b : Fin 2) (ch : Fin 384) (h w z : Fin 32) :
    repeated x (ix5 b ch h w z) = x (ix4 h w z ch) := by
  unfold repeated
  rw [shapeCast_apply _ _ _ (at10 b (0 : Fin 1) (0 : Fin 1) ch (0 : Fin 1) h (0 : Fin 1) w (0 : Fin 1) z) ?_,
    broadcastInDim_apply _ _ _ _ (at10 (0 : Fin 1) (0 : Fin 1) (0 : Fin 1) ch (0 : Fin 1) h (0 : Fin 1) w (0 : Fin 1) z) ?_,
    shapeCast_apply _ _ _ (ix5 (0 : Fin 1) ch h w z) ?_, broadcastInDim_apply _ _ _ _ (ix4 ch h w z) ?_,
    transpose_apply _ _ _ _ (ix4 h w z ch) ?_]
  · intro a; fin_cases a <;> rfl
  · intro a; fin_cases a <;> rfl
  · rw [Shape.rowMajor_val_five, position10]
    show (((0 * 384 + ch.val) * 32 + h.val) * 32 + w.val) * 32 + z.val
      = ((((((((0 * 1 + 0) * 1 + 0) * 384 + ch.val) * 1 + 0) * 32 + h.val) * 1 + 0) * 32 + w.val) * 1 + 0) * 32 + z.val
    omega
  · intro a; fin_cases a <;> rfl
  · rw [Shape.rowMajor_val_five, position10]
    show ((((((((b.val * 1 + 0) * 1 + 0) * 384 + ch.val) * 1 + 0) * 32 + h.val) * 1 + 0) * 32 + w.val) * 1 + 0) * 32 + z.val
      = (((b.val * 384 + ch.val) * 32 + h.val) * 32 + w.val) * 32 + z.val
    omega

/-! ## The result -/

variable (m : (ℓ : Loc nD τ sig) → Buf (Elt F) ℓ)

theorem result_eq (d : Dev nD) :
    Value.res_out0 m d = repeated (joined (alongW (taken (m ((d.tc : Thread nD τ).loc main_arg2)))) (alongH (taken (m ((d.tc : Thread nD τ).loc main_arg1))))
      (alongZ (taken (m ((d.tc : Thread nD τ).loc main_arg3))))) := by
  unfold Value.res_out0 Value.res_main_v23
  rfl

/-- The reference's result at `(b, ch, h, w, z)`. -/
theorem result_apply (d : Dev nD) (b : Fin 2) (ch : Fin 384) (h w z : Fin 32) :
    Value.res_out0 m d (ix5 b ch h w z)
      = entry (m ((d.tc : Thread nD τ).loc main_arg2)) (m ((d.tc : Thread nD τ).loc main_arg1)) (m ((d.tc : Thread nD τ).loc main_arg3)) ch h w z := by
  rw [result_eq, repeated_apply, joined_apply, alongW_apply, alongH_apply, alongZ_apply, taken_apply, taken_apply, taken_apply]
  rfl

end Cert.Proof.Plain
end
-- ==== Proof.lean ====
/-
  The certificate: the kernel's program and its idealization end with the arguments as they were and every semaphore at zero,
  the reference's too, and the kernel's result is the reference's. The run is Proof/Main.lean `run_main`, over any float values;
  the two results are compared entry by entry (Proof/Value.lean, Proof/Ref.lean) through `entry` (Proof/Place.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.ShloMosaic.ValueIdx Idealize.SL.Sem

/-- The kernel's program has the text of its idealization: its run is that one at `Bits`. -/
theorem frame_kernel : Cert.quiescent_Kernel := fun m ρ _ =>
  (θ_run Cert.KernelIdeal.defs _ _).mono (fun _ h => ⟨fun c => (h.1 c).2, h.2⟩) (Embed.run_main (F := Bits) m ρ)

theorem frame_kernelIdeal : Cert.quiescent_KernelIdeal := fun m ρ _ =>
  (θ_run Cert.KernelIdeal.defs _ _).mono (fun _ h => ⟨fun c => (h.1 c).2, h.2⟩) (Embed.run_main (F := Ideal) m ρ)

/-- The reference has no semaphores, and none of its operations writes an argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are equal: at each index both are the same row of the same table. -/
theorem algebraic : Cert.algebraic_KernelIdeal_ReferenceIdeal := by
  intro m ρ m' ρ' _ hagree
  refine ⟨fun c => Embed.result m c, (θ_run Cert.KernelIdeal.defs _ _).mono (fun _ h c => h.1 c) (Embed.run_main (F := Ideal) m ρ), ?_⟩
  refine (θ_run Cert.ReferenceIdeal.defs _ _).mono (fun _ h c => ⟨(h c).1.trans ?_, (h c).2⟩) (Cert.ReferenceIdeal.Value.run (F := Ideal) m' ρ')
  funext i
  obtain ⟨b, ch, y, x, z, rfl⟩ : ∃ (b : Fin 2) (ch : Fin 384) (y x z : Fin 32), i = ix5 b ch y x z := ⟨i 0, i 1, i 2, i 3, i 4, eq_ix5 i⟩
  refine (Plain.result_apply m' c b ch y x z).trans (Eq.trans ?_ (Embed.result_apply m c b ch y x z).symm)
  rw [(hagree c).2.1, (hagree c).2.2.1, (hagree c).2.2.2]

theorem claim : Cert.Claim := ⟨Cert.Kernel.Gen.facts, Cert.KernelIdeal.Gen.facts, Cert.ReferenceIdeal.Gen.facts,
  frame_kernel, frame_kernelIdeal, frame_reference, trivial, algebraic⟩

end Cert.Proof

end
